-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_rows [hPre_normal_rows : Cert.Pre_normal_rows.Facts] (m : (ℓ : Loc Cert.KernelIdeal.nD Cert.KernelIdeal.τ Cert.KernelIdeal.sig) → Buf (Elt Ideal) ℓ) : Prop :=
  ∀ c : Dev Cert.KernelIdeal.nD,
    (Cert.Pre_normal_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_rows [hPre_normal_rows : Cert.Pre_normal_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_normal_rows [hKernelIdeal : Cert.KernelIdeal.Facts] [hPre_normal_rows : Cert.Pre_normal_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_normal_rows [hReferenceIdeal : Cert.ReferenceIdeal.Facts] [hPre_normal_rows : Cert.Pre_normal_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_normal_rows [hKernelIdeal : Cert.KernelIdeal.Facts] [hReferenceIdeal : Cert.ReferenceIdeal.Facts] [hPre_normal_rows : Cert.Pre_normal_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_normal_rows : Cert.Pre_normal_rows.Facts),
    quiescent_Kernel (hKernel := hKernel)
    ∧ quiescent_KernelIdeal (hKernelIdeal := hKernelIdeal)
    ∧ quiescent_KernelIdeal_pre_normal_rows (hKernelIdeal := hKernelIdeal) (hPre_normal_rows := hPre_normal_rows)
    ∧ quiescent_ReferenceIdeal (hReferenceIdeal := hReferenceIdeal)
    ∧ quiescent_ReferenceIdeal_pre_normal_rows (hReferenceIdeal := hReferenceIdeal) (hPre_normal_rows := hPre_normal_rows)
    ∧ preserves_Kernel_KernelIdeal
    ∧ algebraic_KernelIdeal_ReferenceIdeal_pre_normal_rows (hKernelIdeal := hKernelIdeal) (hReferenceIdeal := hReferenceIdeal) (hPre_normal_rows := hPre_normal_rows)
-- ==== Pre_normal_rows.lean ====
abbrev S4x1024x18432 : Shape := ⟨3, ![4, 1024, 18432]⟩
abbrev S18432x3072 : Shape := ⟨2, ![18432, 3072]⟩
abbrev S3072 : Shape := ⟨1, ![3072]⟩
abbrev S18432x64 : Shape := ⟨2, ![18432, 64]⟩
abbrev S64x3072 : Shape := ⟨2, ![64, 3072]⟩
abbrev S_ : Shape := ⟨0, ![]⟩
abbrev S4x1024 : Shape := ⟨2, ![4, 1024]⟩

class Facts : Prop where
  bitsLt_bf16_f32 : FTy.bits .bf16 < FTy.bits .f32
  reducesTo_S4x1024x18432_S4x1024_d2 : S4x1024x18432.ReducesTo [2] S4x1024
  h_S_ : 0 < S_.numel
  bcast_S_S4x1024 : S_.BroadcastsInDim S4x1024 (![] : Fin 0 → Fin S4x1024.rank)

variable [Facts]

def fn {F : FTy → Type} [FloatOps F] (main_arg0 : FVec F S4x1024x18432 .bf16) (main_arg1 : FVec F S18432x3072 .fp8e4m3) (main_arg2 : FVec F S3072 .f32) (main_arg3 : FVec F S18432x64 .bf16) (main_arg4 : FVec F S64x3072 .bf16) : IVec S4x1024 1 :=
  let main_v0 : FVec F S4x1024x18432 .f32 := (extf .f32 · bitsLt_bf16_f32) main_arg0
  let main_v1 : FVec F S4x1024x18432 .f32 := Host.absf main_v0
  let main_cst : FVec F S_ .f32 := constant S_ .f32 0xFF800000#32
  let main_v2 : FVec F S4x1024 .f32 := (fun x v => Host.reduce FloatOps.maximumf x v reducesTo_S4x1024x18432_S4x1024_d2 h_S_) main_v1 main_cst
  let main_cst_0 : FVec F S_ .f32 := constant S_ .f32 0x00000000#32
  let main_v3 : FVec F S4x1024 .f32 := broadcastInDim S4x1024 ![] bcast_S_S4x1024 main_cst_0
  let main_v4 : IVec S4x1024 1 := cmpf .oeq main_v2 main_v3
  let main_cst_1 : FVec F S_ .f32 := constant S_ .f32 0x3B124925#32
  let main_v5 : FVec F S4x1024 .f32 := broadcastInDim S4x1024 ![] bcast_S_S4x1024 main_cst_1
  let main_v6 : FVec F S4x1024 .f32 := mulf main_v2 main_v5
  let main_cst_2 : FVec F S_ .f32 := constant S_ .f32 0x00800000#32
  let main_v7 : FVec F S4x1024 .f32 := broadcastInDim S4x1024 ![] bcast_S_S4x1024 main_cst_2
  let main_v8 : IVec S4x1024 1 := cmpf .oge main_v6 main_v7
  let main_cst_3 : FVec F S_ .f32 := constant S_ .f32 0x7F7F0000#32
  let main_v9 : FVec F S4x1024 .f32 := broadcastInDim S4x1024 ![] bcast_S_S4x1024 main_cst_3
  let main_v10 : IVec S4x1024 1 := cmpf .ole main_v2 main_v9
  let main_v11 : IVec S4x1024 1 := andi main_v8 main_v10
  let main_v12 : IVec S4x1024 1 := ori main_v4 main_v11
  main_v12
-- ==== Kernel.lean ====
abbrev S4x1024x18432 : Shape := ⟨3, ![4, 1024, 18432]⟩
abbrev S18432x3072 : Shape := ⟨2, ![18432, 3072]⟩
abbrev S3072 : Shape := ⟨1, ![3072]⟩
abbrev S18432x64 : Shape := ⟨2, ![18432, 64]⟩
abbrev S64x3072 : Shape := ⟨2, ![64, 3072]⟩
abbrev S4096x18432 : Shape := ⟨2, ![4096, 18432]⟩
abbrev S4096x1 : Shape := ⟨2, ![4096, 1]⟩
abbrev S4096x64 : Shape := ⟨2, ![4096, 64]⟩
abbrev S128x18432 : Shape := ⟨2, ![128, 18432]⟩
abbrev S128x1 : Shape := ⟨2, ![128, 1]⟩
abbrev S128x64 : Shape := ⟨2, ![128, 64]⟩
abbrev S128 : Shape := ⟨1, ![128]⟩
abbrev S1x256 : Shape := ⟨2, ![1, 256]⟩
abbrev S128x256 : Shape := ⟨2, ![128, 256]⟩
abbrev S1x3072 : Shape := ⟨2, ![1, 3072]⟩
abbrev S4096x3072 : Shape := ⟨2, ![4096, 3072]⟩
abbrev S512x18432 : Shape := ⟨2, ![512, 18432]⟩
abbrev S18432x512 : Shape := ⟨2, ![18432, 512]⟩
abbrev S512x1 : Shape := ⟨2, ![512, 1]⟩
abbrev S1x512 : Shape := ⟨2, ![1, 512]⟩
abbrev S512x64 : Shape := ⟨2, ![512, 64]⟩
abbrev S64x512 : Shape := ⟨2, ![64, 512]⟩
abbrev S512x512 : Shape := ⟨2, ![512, 512]⟩
abbrev S4x1024x3072 : Shape := ⟨3, ![4, 1024, 3072]⟩
abbrev S4x1024 : Shape := ⟨2, ![4, 1024]⟩

abbrev nBuf : Space → Nat
  | .hbm => 14
  | .vmem => 23
  | .smem => 0
  | _ => 0

abbrev bufTy : (tb : Table) → Fin (tcTables nBuf tb) → BufTy
  | .hbm, ⟨0, _⟩ => ⟨S4x1024x18432, .bf16⟩
  | .hbm, ⟨1, _⟩ => ⟨S18432x3072, .fp8e4m3⟩
  | .hbm, ⟨2, _⟩ => ⟨S3072, .f32⟩
  | .hbm, ⟨3, _⟩ => ⟨S18432x64, .bf16⟩
  | .hbm, ⟨4, _⟩ => ⟨S64x3072, .bf16⟩
  | .hbm, ⟨5, _⟩ => ⟨S4096x18432, .bf16⟩
  | .hbm, ⟨6, _⟩ => ⟨S4096x18432, .fp8e4m3⟩
  | .hbm, ⟨7, _⟩ => ⟨S4096x1, .f32⟩
  | .hbm, ⟨8, _⟩ => ⟨S4096x64, .bf16⟩
  | .hbm, ⟨9, _⟩ => ⟨S1x3072, .f32⟩
  | .hbm, ⟨10, _⟩ => ⟨S4096x3072, .bf16⟩
  | .hbm, ⟨11, _⟩ => ⟨S4x1024x3072, .bf16⟩
  | .hbm, ⟨12, _⟩ => ⟨S4x1024x18432, .fp8e4m3⟩
  | .hbm, ⟨13, _⟩ => ⟨S4x1024, .f32⟩
  | .local _ .vmem, ⟨0, _⟩ => ⟨S128x18432, .bf16⟩
  | .local _ .vmem, ⟨1, _⟩ => ⟨S128x18432, .bf16⟩
  | .local _ .vmem, ⟨2, _⟩ => ⟨S18432x64, .bf16⟩
  | .local _ .vmem, ⟨3, _⟩ => ⟨S128x18432, .fp8e4m3⟩
  | .local _ .vmem, ⟨4, _⟩ => ⟨S128x18432, .fp8e4m3⟩
  | .local _ .vmem, ⟨5, _⟩ => ⟨S128x1, .f32⟩
  | .local _ .vmem, ⟨6, _⟩ => ⟨S128x1, .f32⟩
  | .local _ .vmem, ⟨7, _⟩ => ⟨S128x64, .bf16⟩
  | .local _ .vmem, ⟨8, _⟩ => ⟨S128x64, .bf16⟩
  | .local _ .vmem, ⟨9, _⟩ => ⟨S512x18432, .fp8e4m3⟩
  | .local _ .vmem, ⟨10, _⟩ => ⟨S512x18432, .fp8e4m3⟩
  | .local _ .vmem, ⟨11, _⟩ => ⟨S18432x512, .fp8e4m3⟩
  | .local _ .vmem, ⟨12, _⟩ => ⟨S18432x512, .fp8e4m3⟩
  | .local _ .vmem, ⟨13, _⟩ => ⟨S512x1, .f32⟩
  | .local _ .vmem, ⟨14, _⟩ => ⟨S512x1, .f32⟩
  | .local _ .vmem, ⟨15, _⟩ => ⟨S1x512, .f32⟩
  | .local _ .vmem, ⟨16, _⟩ => ⟨S1x512, .f32⟩
  | .local _ .vmem, ⟨17, _⟩ => ⟨S512x64, .bf16⟩
  | .local _ .vmem, ⟨18, _⟩ => ⟨S512x64, .bf16⟩
  | .local _ .vmem, ⟨19, _⟩ => ⟨S64x512, .bf16⟩
  | .local _ .vmem, ⟨20, _⟩ => ⟨S64x512, .bf16⟩
  | .local _ .vmem, ⟨21, _⟩ => ⟨S512x512, .bf16⟩
  | .local _ .vmem, ⟨22, _⟩ => ⟨S512x512, .bf16⟩
  | _, _ => ⟨S4x1024x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x18432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18432x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x18432 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x18432 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S18432x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S64x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S4x1024x18432 : Shape := ⟨3, ![4, 1024, 18432]⟩
abbrev S18432x3072 : Shape := ⟨2, ![18432, 3072]⟩
abbrev S3072 : Shape := ⟨1, ![3072]⟩
abbrev S18432x64 : Shape := ⟨2, ![18432, 64]⟩
abbrev S64x3072 : Shape := ⟨2, ![64, 3072]⟩
abbrev S4x1024x3072 : Shape := ⟨3, ![4, 1024, 3072]⟩
abbrev S4x1024 : Shape := ⟨2, ![4, 1024]⟩
abbrev S4x1024x1 : Shape := ⟨3, ![4, 1024, 1]⟩
abbrev S1x1x3072 : Shape := ⟨3, ![1, 1, 3072]⟩
abbrev S4x1024x64 : Shape := ⟨3, ![4, 1024, 64]⟩

abbrev nBuf : Space → Nat
  | .hbm => 8
  | .vmem => 8
  | .smem => 0
  | _ => 0

abbrev bufTy : (tb : Table) → Fin (tcTables nBuf tb) → BufTy
  | .hbm, ⟨0, _⟩ => ⟨S4x1024x18432, .bf16⟩
  | .hbm, ⟨1, _⟩ => ⟨S18432x3072, .fp8e4m3⟩
  | .hbm, ⟨2, _⟩ => ⟨S3072, .f32⟩
  | .hbm, ⟨3, _⟩ => ⟨S18432x64, .bf16⟩
  | .hbm, ⟨4, _⟩ => ⟨S64x3072, .bf16⟩
  | .hbm, ⟨5, _⟩ => ⟨S4x1024x3072, .bf16⟩
  | .hbm, ⟨6, _⟩ => ⟨S4x1024x18432, .fp8e4m3⟩
  | .hbm, ⟨7, _⟩ => ⟨S4x1024, .f32⟩
  | .local _ .vmem, ⟨0, _⟩ => ⟨S4x1024x18432, .bf16⟩
  | .local _ .vmem, ⟨1, _⟩ => ⟨S18432x3072, .fp8e4m3⟩
  | .local _ .vmem, ⟨2, _⟩ => ⟨S3072, .f32⟩
  | .local _ .vmem, ⟨3, _⟩ => ⟨S18432x64, .bf16⟩
  | .local _ .vmem, ⟨4, _⟩ => ⟨S64x3072, .bf16⟩
  | .local _ .vmem, ⟨5, _⟩ => ⟨S4x1024x3072, .bf16⟩
  | .local _ .vmem, ⟨6, _⟩ => ⟨S4x1024x18432, .fp8e4m3⟩
  | .local _ .vmem, ⟨7, _⟩ => ⟨S4x1024, .f32⟩
  | _, _ => ⟨S4x1024x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x1024x18432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024x18432 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelRun.lean ====
/- The kernel's run with its results named: the three host results end at the contents that the last boundary of the
   program gives them (`Gen.W5`), the arguments are unchanged and every counter is zero. -/
module

public import proofs.«01_k».proof.Proof.Gen.KernelIdeal.Frame

@[expose] public section

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every execution of the program from a memory with zero counters terminates; then each of the three results holds what the
    boundary contents `W5` hold there, each argument is as launched, and every counter is zero. -/
theorem run : θ_run defs (onTc (τ := τ) (main (F := F))) ⟨m, fun _ => 0, ρ⟩ (fun r => (∀ c : Dev nD,
      r.2.mem ((c.tc : Thread nD τ).loc main_v4) = W5 m ρ c (Proc.devRef .tc main_v4)
      ∧ r.2.mem ((c.tc : Thread nD τ).loc main_v5) = W5 m ρ c (Proc.devRef .tc main_v5)
      ∧ r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v4 (by decide)), h c _ (mem_uc main_v5 (by decide)), h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩), funext fun g => hz g (.inr (no_unscoped g.2))⟩)

end Cert.KernelIdeal.KernelRun

end
-- ==== Proof.Scale.lean ====
/- The power of two of a row, read two ways. The kernel finds the exponent field of `q = a / 448` as the greatest field whose
   float is at most `q`, and builds `2 ^ e` and `2 ^ (-e)` as floats from their exponent fields; the reference takes
   `e = floor (log q / log 2) + 1` and computes `2 ^ e` and `2 ^ (0 - e)`. Where `q` is zero or in the normal range the two agree
   (`scale_eq`, `inv_eq`). -/
module

public import Idealize.ShloMosaic.Lib.Pointwise

@[expose] public section

noncomputable section

namespace Cert.Scale

open Idealize.ShloMosaic

/-- The float of exponent field `n` and fraction zero. -/
abbrev fieldFloat (n : Nat) : EReal := Ideal.ofBits .f32 (IntOp.shli .vector (BitVec.ofNat 32 n) 23#32)

theorem shli_field : ∀ n : Fin 256, (IntOp.shli .vector (BitVec.ofNat 32 n) 23#32).extractLsb' 31 1 = BitVec.ofNat 1 (n / 256) ∧
    ((IntOp.shli .vector (BitVec.ofNat 32 n) 23#32).extractLsb' 23 8).toNat = n ∧
    ((IntOp.shli .vector (BitVec.ofNat 32 n) 23#32).extractLsb' 0 23).toNat = 0 := by
  decide +kernel

/-- Fields 1 to 254 are the powers of two from `2 ^ -126` to `2 ^ 127`. -/
theorem fieldFloat_normal (n : Nat) (h0 : 0 < n) (h1 : n < 255) : fieldFloat n = (((2 : ℝ) ^ ((n : ℤ) - 127) : ℝ) : EReal) := by
  obtain ⟨hs, he, hf⟩ := shli_field ⟨n, by omega⟩
  simp only [show n / 256 = 0 by omega] at hs
  simp only [fieldFloat, Ideal.ofBits, Ideal.ieee, Nat.reduceAdd, hs, he, hf]
  have e1 : n ≠ 255 := by omega
  have e2 : n ≠ 0 := by omega
  simp [e1, e2, -EReal.coe_mul]
  rw [show (8388608 : ℝ) = (2 : ℝ) ^ (23 : ℤ) by norm_num, ← zpow_add₀ (by norm_num)]
  exact congrArg (fun z : ℤ => (2 : ℝ) ^ z) (by ring)

/-- Field 0 is zero. -/
theorem fieldFloat_zero : fieldFloat 0 = 0 := by
  obtain ⟨hs, he, hf⟩ := shli_field ⟨0, by omega⟩
  simp only [fieldFloat, Ideal.ofBits, Ideal.ieee, Nat.reduceAdd, he, hf]
  simp

/-- Field 255 is infinity. -/
theorem fieldFloat_top : fieldFloat 255 = ⊤ := by
  obtain ⟨hs, he, hf⟩ := shli_field ⟨255, by omega⟩
  simp only [fieldFloat, Ideal.ofBits, Ideal.ieee, Nat.reduceAdd, he, hf, hs]
  simp

/-- The kernel's exponent field of `q`: the greatest field whose float is at most `q`. -/
def field (q : EReal) : BitVec 32 :=
  Finset.fold IntOp.maxsi (2147483648#32) (fun x : Fin 256 => if fieldFloat x ≤ q then BitVec.ofNat 32 x else 0#32) Finset.univ

/-- The kernel's exponent of `q`. -/
def expWord (q : EReal) : BitVec 32 :=
  Scalar.select (IntOp.ori (IntOp.cmpi .eq (field q) 0#32) (IntOp.cmpi .eq (field q) 255#32)) 0#32 (IntOp.subi (field q) 126#32)

/-- The greatest of the fields up to `N`. -/
theorem fold_upto (N : Fin 256) : Finset.fold IntOp.maxsi (2147483648#32)
    (fun x : Fin 256 => if x.val ≤ N.val then BitVec.ofNat 32 x else 0#32) Finset.univ = BitVec.ofNat 32 N := by
  apply BitVec.eq_of_toInt_eq
  rw [← Finset.fold_hom (op' := max) (m := BitVec.toInt) (fun x y => by
    unfold IntOp.maxsi; rw [BitVec.slt_eq_decide]; simp only [decide_eq_true_eq]; split <;> omega)]
  have hi : ∀ x : Fin 256, (BitVec.ofNat 32 x).toInt = x := by decide +kernel
  apply le_antisymm
  · rw [Finset.fold_max_le]
    refine ⟨by rw [hi]; simp, fun x _ => ?_⟩
    split
    · rw [hi, hi]; omega
    · rw [hi]; simp
  · rw [Finset.le_fold_max]
    exact Or.inr ⟨N, Finset.mem_univ _, by simp⟩

/-- The field of a real between two consecutive powers of two of the normal range. -/
theorem field_normal (N : Nat) (h0 : 0 < N) (h1 : N < 254) (q : ℝ) (hl : (2 : ℝ) ^ ((N : ℤ) - 127) ≤ q)
    (hu : q < (2 : ℝ) ^ ((N : ℤ) - 126)) : field q = BitVec.ofNat 32 N := by
  rw [field, ← fold_upto ⟨N, by omega⟩]
  refine congrArg (fun f => Finset.fold IntOp.maxsi (2147483648#32) f Finset.univ) (funext fun x => ?_)
  have hq : 0 < q := lt_of_lt_of_le (by positivity) hl
  have key : fieldFloat x ≤ (q : EReal) ↔ x.val ≤ N := by
    rcases Nat.eq_zero_or_pos x.val with h | h
    · rw [h, fieldFloat_zero]
      simp [hq.le]
    rcases Nat.lt_or_ge x.val 255 with h' | h'
    · rw [fieldFloat_normal _ h h', EReal.coe_le_coe_iff]
      constructor
      · intro hx
        by_contra hn
        have : (2 : ℝ) ^ ((N : ℤ) - 126) ≤ (2 : ℝ) ^ ((x.val : ℤ) - 127) := zpow_le_zpow_right₀ (by norm_num) (by omega)
        linarith
      · intro hx
        exact le_trans (zpow_le_zpow_right₀ (by norm_num) (by omega)) hl
    · have : x.val = 255 := by omega
      rw [this, fieldFloat_top]
      constructor
      · intro hx; exact absurd (top_le_iff.mp hx) (EReal.coe_ne_top q)
      · intro hx; omega
  simp only [key]

/-- The field of zero is zero. -/
theorem field_zero : field 0 = 0#32 := by
  refine Eq.trans ?_ (fold_upto ⟨0, by omega⟩)
  refine congrArg (fun f => Finset.fold IntOp.maxsi (2147483648#32) f Finset.univ) (funext fun x => ?_)
  have key : fieldFloat x ≤ (0 : EReal) ↔ x.val ≤ 0 := by
    rcases Nat.eq_zero_or_pos x.val with h | h
    · rw [h, fieldFloat_zero]; simp
    rcases Nat.lt_or_ge x.val 255 with h' | h'
    · rw [fieldFloat_normal _ h h']
      have : (0 : ℝ) < (2 : ℝ) ^ ((x.val : ℤ) - 127) := by positivity
      constructor
      · intro hx
        have hx' : (2 : ℝ) ^ ((x.val : ℤ) - 127) ≤ 0 := by exact_mod_cast hx
        linarith
      · intro hx; omega
    · have : x.val = 255 := by omega
      rw [this, fieldFloat_top]
      simp
  simp only [key]

/-- The exponent word of field `N`, and the fields the kernel builds from it. -/
theorem words : ∀ N : Fin 254, 0 < N.val →
    let e := Scalar.select (IntOp.ori (IntOp.cmpi .eq (BitVec.ofNat 32 N) 0#32) (IntOp.cmpi .eq (BitVec.ofNat 32 N) 255#32)) 0#32
      (IntOp.subi (BitVec.ofNat 32 N) 126#32)
    IntOp.addi e 127#32 = BitVec.ofNat 32 (N + 1) ∧ IntOp.subi 127#32 e = BitVec.ofNat 32 (253 - N) := by
  decide +kernel

/-- The scale the kernel builds. -/
def kScale (q : EReal) : EReal := Ideal.ofBits .f32 (IntOp.shli .vector (IntOp.addi (expWord q) 127#32) 23#32)

/-- The inverse scale the kernel builds. -/
def kInv (q : EReal) : EReal := Ideal.ofBits .f32 (IntOp.shli .vector (IntOp.subi 127#32 (expWord q)) 23#32)

/-- The reference's exponent, of a positive real. -/
theorem ref_exponent (q : ℝ) (hq : 0 < q) (two : EReal) (h2 : two = ((2 : ℝ) : EReal)) :
    Ideal.liftRound Int.floor (Ideal.div (Ideal.log q) (Ideal.log two)) = ((⌊Real.log q / Real.log 2⌋ : ℝ) : EReal) := by
  have hl : Real.log 2 ≠ 0 := (Real.log_pos (by norm_num)).ne'
  rw [h2, Ideal.log_coe, Ideal.log_coe, if_neg (by linarith), if_neg (by norm_num), Ideal.div_coe hl, ← EReal.coe_mul, Ideal.liftRound_coe]
  rw [mul_one_div]

/-- Two to the binary logarithm of a positive real is the real. -/
theorem rpow_log_div (q : ℝ) (hq : 0 < q) : (2 : ℝ) ^ (Real.log q / Real.log 2) = q := by
  have hl : Real.log 2 ≠ 0 := (Real.log_pos (by norm_num)).ne'
  rw [Real.rpow_def_of_pos (by norm_num), mul_div_cancel₀ _ hl, Real.exp_log hq]

/-- On a positive real of the normal range the kernel's scale and its inverse are the powers of two of the reference's exponent. -/
theorem powers (q : ℝ) (hl : (2 : ℝ) ^ (-126 : ℤ) ≤ q) (hu : q < (2 : ℝ) ^ (120 : ℤ)) :
    kScale q = Ideal.exp2 (((⌊Real.log q / Real.log 2⌋ : ℝ) : EReal) + 1) ∧ kInv q = Ideal.exp2 (0 - (((⌊Real.log q / Real.log 2⌋ : ℝ) : EReal) + 1)) := by
  have hq : 0 < q := lt_of_lt_of_le (by positivity) hl
  set E : ℤ := ⌊Real.log q / Real.log 2⌋ with hE
  have hE1 : (2 : ℝ) ^ E ≤ q := by
    rw [← Real.rpow_intCast]
    calc (2 : ℝ) ^ (E : ℝ) ≤ (2 : ℝ) ^ (Real.log q / Real.log 2) := Real.rpow_le_rpow_of_exponent_le (by norm_num) (Int.floor_le _)
      _ = q := rpow_log_div q hq
  have hE2 : q < (2 : ℝ) ^ (E + 1) := by
    rw [← Real.rpow_intCast]
    calc q = (2 : ℝ) ^ (Real.log q / Real.log 2) := (rpow_log_div q hq).symm
      _ < (2 : ℝ) ^ ((E + 1 : ℤ) : ℝ) := Real.rpow_lt_rpow_of_exponent_lt (by norm_num) (by push_cast; exact Int.lt_floor_add_one _)
  have b1 : -126 ≤ E := by
    by_contra h
    have : (2 : ℝ) ^ (E + 1) ≤ (2 : ℝ) ^ (-126 : ℤ) := zpow_le_zpow_right₀ (by norm_num) (by omega)
    linarith
  have b2 : E < 120 := by
    by_contra h
    have : (2 : ℝ) ^ (120 : ℤ) ≤ (2 : ℝ) ^ E := zpow_le_zpow_right₀ (by norm_num) (by omega)
    linarith
  obtain ⟨N, hN⟩ : ∃ N : ℕ, (N : ℤ) = E + 127 := ⟨(E + 127).toNat, by omega⟩
  have hf : field q = BitVec.ofNat 32 N :=
    field_normal N (by omega) (by omega) q (by rw [hN]; convert hE1 using 2; ring) (by rw [hN]; convert hE2 using 2; ring)
  obtain ⟨w1, w2⟩ := words ⟨N, by omega⟩ (by show 0 < N; omega)
  have p : ∀ z : ℤ, Ideal.exp2 ((z : ℝ) : EReal) = (((2 : ℝ) ^ z : ℝ) : EReal) := fun z => by
    rw [Ideal.exp2_coe]; congr 1; exact Real.rpow_intCast 2 z
  constructor
  · rw [kScale, expWord, hf, w1]
    refine (fieldFloat_normal (N + 1) (by omega) (by omega)).trans ?_
    rw [show ((E : ℝ) : EReal) + 1 = (((E + 1 : ℤ) : ℝ) : EReal) by push_cast; rfl, p]
    congr 2
    push_cast
    omega
  · rw [kInv, expWord, hf, w2]
    refine (fieldFloat_normal (253 - N) (by omega) (by omega)).trans ?_
    rw [show (0 : EReal) - (((E : ℝ) : EReal) + 1) = (((-(E + 1) : ℤ) : ℝ) : EReal) by
      rw [show ((E : ℝ) : EReal) + 1 = (((E + 1 : ℤ) : ℝ) : EReal) by push_cast; rfl, zero_sub, ← EReal.coe_neg]
      push_cast; rfl, p]
    congr 2
    omega

/-- The scale and its inverse at zero are one. -/
theorem powers_zero : kScale 0 = 1 ∧ kInv 0 = 1 := by
  have e0 : expWord 0 = 0#32 := by rw [expWord, field_zero]; decide
  have f : fieldFloat 127 = 1 := by
    rw [fieldFloat_normal 127 (by omega) (by omega)]; norm_num
  constructor
  · rw [kScale, e0]; exact f
  · rw [kInv, e0]; exact f

end Cert.Scale

end
-- ==== Proof.RowMax.lean ====
/- The greatest magnitude of a row, as the programs take it: a maximum reduction along the last axis is, at each row, the fold of
   `max` from minus infinity over the row's entries (`max2`, `max3`, `hostMax3`); what the condition `normal_rows` says of it
   (`normal_of_pre`); and the agreement of the two readings of a row's power of two where that holds (`scale_agree`). -/
module

public import proofs.«01_k».proof.Proof.Scale
public import proofs.«01_k».proof.Pre_normal_rows

@[expose] public section

set_option maxRecDepth 16384

noncomputable section

namespace Cert.RowMax

open Idealize.ShloMosaic Cert.Scale

/-- The greatest magnitude of a row's `n` entries. -/
def amax {n : Nat} (f : Fin n → EReal) : EReal := (Finset.univ : Finset (Fin n)).fold max ⊥ (fun k => max (f k) (-f k))

theorem amax_def {n : Nat} (f : Fin n → EReal) :
    amax f = (Finset.univ : Finset (Fin n)).fold max ⊥ (fun k => max (f k) (-f k)) := rfl

variable {n0 n1 n2 : Nat} {φ : FTy}

/-- A maximum reduction along the second of two axes, at a row. -/
theorem max2 (v : FVec Ideal ⟨2, ![n0, n1]⟩ φ) (acc : BitVec φ.bits) (h : (⟨2, ![n0, n1]⟩ : Shape).Reduces [1] ⟨1, ![n0]⟩)
    (hφ : FKind.Formats φ) (hacc : acc = FKind.maximumf.neutral φ hφ) (r : Fin n0) :
    multiReduction .maximumf [1] ⟨1, ![n0]⟩ v acc h hφ hacc (ix1 r)
      = (Finset.univ : Finset (Fin n1)).fold max (Ideal.ofBits φ acc) (fun k => v (ix2 r k)) :=
  (multiReduction_maximumf_eq_fold v acc h hφ hacc (ix1 r)).trans (h.fold_fiber_r2_a1 (ix1 r) _ _ v)

/-- A maximum reduction along the third of three axes, at a row. -/
theorem max3 (v : FVec Ideal ⟨3, ![n0, n1, n2]⟩ φ) (acc : BitVec φ.bits)
    (h : (⟨3, ![n0, n1, n2]⟩ : Shape).Reduces [2] ⟨2, ![n0, n1]⟩)
    (hφ : FKind.Formats φ) (hacc : acc = FKind.maximumf.neutral φ hφ) (b : Fin n0) (s : Fin n1) :
    multiReduction .maximumf [2] ⟨2, ![n0, n1]⟩ v acc h hφ hacc (ix2 b s)
      = (Finset.univ : Finset (Fin n2)).fold max (Ideal.ofBits φ acc) (fun k => v (ix3 b s k)) :=
  (multiReduction_maximumf_eq_fold v acc h hφ hacc (ix2 b s)).trans (h.fold_fiber_r3_a2 (ix2 b s) _ _ v)

/-- The host's maximum reduction along the third of three axes, at a row. -/
theorem hostMax3 {u : Shape} (v : FVec Ideal ⟨3, ![n0, n1, n2]⟩ φ) (init : FVec Ideal u φ)
    (h : (⟨3, ![n0, n1, n2]⟩ : Shape).ReducesTo [2] ⟨2, ![n0, n1]⟩) (hu : 0 < u.numel) (b : Fin n0) (s : Fin n1) :
    Host.reduce FloatOps.maximumf v init h hu (ix2 b s)
      = (Finset.univ : Finset (Fin n2)).fold max (init (Shape.Idx.first hu)) (fun k => v (ix3 b s k)) :=
  (Host.reduce_eq_fold FloatOps.maximumf v init h hu (ix2 b s)).trans (h.fold_fiber_r3_a2 (ix2 b s) _ _ v)

/-- The greatest of 32-bit integers along the second of two axes, at a row. -/
theorem maxI2 (v : IVec ⟨2, ![n0, n1]⟩ 32) (acc : BitVec 32) (h : (⟨2, ![n0, n1]⟩ : Shape).Reduces [1] ⟨1, ![n0]⟩)
    (hacc : acc = IKind.maxsi.neutral) (r : Fin n0) :
    multiReductionI .maxsi [1] ⟨1, ![n0]⟩ v acc h hacc (ix1 r)
      = (Finset.univ : Finset (Fin n1)).fold IntOp.maxsi acc (fun k => v (ix2 r k)) :=
  (multiReductionI_eq_fold .maxsi v acc h hacc (ix1 r)).trans (h.fold_fiber_r2_a1 (ix1 r) IntOp.maxsi _ v)

/-! ## Constants -/

theorem bits_bf16_neg_inf : Ideal.ofBits .bf16 0xFF80#16 = ⊥ := by
  simp [Ideal.ofBits, Ideal.ieee]

theorem bits_f32_neg_inf : Ideal.ofBits .f32 0xFF800000#32 = ⊥ := by
  simp [Ideal.ofBits, Ideal.ieee]

theorem bits_f32_zero : Ideal.ofBits .f32 0x00000000#32 = 0 := by
  simp [Ideal.ofBits, Ideal.ieee]

theorem bits_f32_one : Ideal.ofBits .f32 0x3F800000#32 = 1 := by
  simp [Ideal.ofBits, Ideal.ieee, -EReal.coe_mul]; norm_num

theorem bits_f32_two : Ideal.ofBits .f32 0x40000000#32 = ((2 : ℝ) : EReal) := by
  simp [Ideal.ofBits, Ideal.ieee, -EReal.coe_mul]; norm_num

theorem bits_f32_min : Ideal.ofBits .f32 0x00800000#32 = (((2 : ℝ) ^ (-126 : ℤ) : ℝ) : EReal) := by
  simp [Ideal.ofBits, Ideal.ieee, -EReal.coe_mul]; norm_num

/-- The factor `1 / 448`, as a float. -/
theorem bits_f32_inv448 : Ideal.ofBits .f32 0x3B124925#32 = ((9586981 * (2 : ℝ) ^ (-32 : ℤ) : ℝ) : EReal) := by
  simp [Ideal.ofBits, Ideal.ieee, -EReal.coe_mul]

/-- The greatest finite bf16. -/
theorem bits_f32_bf16max : Ideal.ofBits .f32 0x7F7F0000#32 = ((16711680 * (2 : ℝ) ^ (104 : ℤ) : ℝ) : EReal) := by
  simp [Ideal.ofBits, Ideal.ieee, -EReal.coe_mul]

/-! ## The condition, and the powers of two under it -/

/-- A row's greatest magnitude is zero, or its quotient by 448 is in the normal range and it is finite. -/
def Normal (a : EReal) : Prop :=
  a = 0 ∨ Ideal.ofBits .f32 0x00800000#32 ≤ a * Ideal.ofBits .f32 0x3B124925#32 ∧ a ≤ Ideal.ofBits .f32 0x7F7F0000#32

/-- The reference's exponent of a row whose greatest magnitude is `a`. -/
def exponent (a : EReal) : EReal :=
  Scalar.select (Ideal.cmp .oeq a (Ideal.ofBits .f32 0x00000000#32)) (Ideal.ofBits .f32 0x00000000#32)
    (Ideal.liftRound Int.floor (Ideal.div (Ideal.log (a * Ideal.ofBits .f32 0x3B124925#32)) (Ideal.log (Ideal.ofBits .f32 0x40000000#32)))
      + Ideal.ofBits .f32 0x3F800000#32)

theorem select_one {α : Type} (x y : α) : Scalar.select 1#1 x y = x := if_pos rfl

theorem select_zero {α : Type} (x y : α) : Scalar.select 0#1 x y = y := if_neg (by decide)

/-- On a normal row the kernel's scale is two to the reference's exponent, and its inverse two to minus that exponent. -/
theorem scale_agree (a : EReal) (h : Normal a) :
    kScale (a * Ideal.ofBits .f32 0x3B124925#32) = Ideal.exp2 (exponent a) ∧
      kInv (a * Ideal.ofBits .f32 0x3B124925#32) = Ideal.exp2 (Ideal.ofBits .f32 0x00000000#32 - exponent a) := by
  unfold exponent
  rw [bits_f32_zero, bits_f32_one]
  rcases h with h | ⟨h1, h2⟩
  · have c : Ideal.cmp .oeq a 0 = 1#1 := by rw [h]; simp [Ideal.cmp]
    have e : Ideal.exp2 0 = 1 := by
      rw [show (0 : EReal) = ((0 : ℝ) : EReal) from rfl, Ideal.exp2_coe]; norm_num
    rw [c, h, zero_mul, powers_zero.1, powers_zero.2]
    rw [select_one, sub_zero, e]
    exact ⟨rfl, rfl⟩
  · rw [bits_f32_min, bits_f32_inv448] at h1
    rw [bits_f32_bf16max] at h2
    have hb : a ≠ ⊥ := by
      rintro rfl
      rw [EReal.bot_mul_coe_of_pos (by positivity)] at h1
      exact absurd (le_bot_iff.mp h1) (EReal.coe_ne_bot _)
    have ht : a ≠ ⊤ := by
      rintro rfl
      exact absurd (top_le_iff.mp h2) (EReal.coe_ne_top _)
    lift a to ℝ using ⟨ht, hb⟩
    rw [← EReal.coe_mul, EReal.coe_le_coe_iff] at h1
    rw [EReal.coe_le_coe_iff] at h2
    rw [bits_f32_inv448, ← EReal.coe_mul]
    have hq : (0 : ℝ) < a * (9586981 * (2 : ℝ) ^ (-32 : ℤ)) := lt_of_lt_of_le (by positivity) h1
    have ha : a ≠ 0 := by rintro rfl; simp at hq
    have hu : a * (9586981 * (2 : ℝ) ^ (-32 : ℤ)) < (2 : ℝ) ^ (120 : ℤ) := by
      calc a * (9586981 * (2 : ℝ) ^ (-32 : ℤ)) ≤ (16711680 * (2 : ℝ) ^ (104 : ℤ)) * (9586981 * (2 : ℝ) ^ (-32 : ℤ)) :=
            mul_le_mul_of_nonneg_right h2 (by positivity)
        _ < (2 : ℝ) ^ (120 : ℤ) := by norm_num
    have c : Ideal.cmp .oeq (a : EReal) 0 = 0#1 := by
      have : ¬ ((a : EReal) = 0) := by exact_mod_cast ha
      simp [Ideal.cmp, this]
    rw [c, select_zero, ref_exponent _ hq _ bits_f32_two]
    exact powers _ h1 hu

/-- What `normal_rows` makes of the array of the rows' greatest magnitudes. -/
def preVec [Cert.Pre_normal_rows.Facts] (A : FVec Ideal Cert.Pre_normal_rows.S4x1024 .f32) : IVec Cert.Pre_normal_rows.S4x1024 1 :=
  ori (cmpf .oeq A (broadcastInDim Cert.Pre_normal_rows.S4x1024 ![] Cert.Pre_normal_rows.Facts.bcast_S_S4x1024
      (constant Cert.Pre_normal_rows.S_ .f32 0x00000000#32)))
    (andi (cmpf .oge (mulf A (broadcastInDim Cert.Pre_normal_rows.S4x1024 ![] Cert.Pre_normal_rows.Facts.bcast_S_S4x1024
        (constant Cert.Pre_normal_rows.S_ .f32 0x3B124925#32))) (broadcastInDim Cert.Pre_normal_rows.S4x1024 ![]
          Cert.Pre_normal_rows.Facts.bcast_S_S4x1024 (constant Cert.Pre_normal_rows.S_ .f32 0x00800000#32)))
      (cmpf .ole A (broadcastInDim Cert.Pre_normal_rows.S4x1024 ![] Cert.Pre_normal_rows.Facts.bcast_S_S4x1024
        (constant Cert.Pre_normal_rows.S_ .f32 0x7F7F0000#32))))

theorem fn_eq [Cert.Pre_normal_rows.Facts] (x : FVec Ideal Cert.Pre_normal_rows.S4x1024x18432 .bf16) (x1 x2 x3 x4) :
    Cert.Pre_normal_rows.fn (F := Ideal) x x1 x2 x3 x4 = preVec (Host.reduce FloatOps.maximumf
      (Host.absf (extf .f32 x Cert.Pre_normal_rows.Facts.bitsLt_bf16_f32)) (constant Cert.Pre_normal_rows.S_ .f32 0xFF800000#32)
      Cert.Pre_normal_rows.Facts.reducesTo_S4x1024x18432_S4x1024_d2 Cert.Pre_normal_rows.Facts.h_S_) := by
  unfold Cert.Pre_normal_rows.fn preVec
  rfl

theorem preVec_at [Cert.Pre_normal_rows.Facts] (A : FVec Ideal Cert.Pre_normal_rows.S4x1024 .f32) (b : Fin 4) (s : Fin 1024)
    (h : preVec A (ix2 b s) = 1#1) : Normal (A (ix2 b s)) := by
  pointwise [preVec] at h
  have key : ∀ x y z : Bool, IntOp.ori (BitVec.ofBool x) (IntOp.andi (BitVec.ofBool y) (BitVec.ofBool z)) = 1#1 →
      x = true ∨ y = true ∧ z = true := by decide
  have h' := key _ _ _ h
  exact h'.imp of_decide_eq_true fun h => ⟨of_decide_eq_true h.1, of_decide_eq_true h.2⟩

/-- The condition `normal_rows` of the arguments says that every row of `x` is normal. -/
theorem normal_of_pre [Cert.Pre_normal_rows.Facts] (x : FVec Ideal Cert.Pre_normal_rows.S4x1024x18432 .bf16) (x1 x2 x3 x4)
    (h : Cert.Pre_normal_rows.fn (F := Ideal) x x1 x2 x3 x4 = fun _ => 1#1) (b : Fin 4) (s : Fin 1024) :
    Normal (amax fun k => x (ix3 b s k)) := by
  have h1 := preVec_at _ b s (congrFun ((fn_eq x x1 x2 x3 x4).symm.trans h) (ix2 b s))
  rw [hostMax3] at h1
  rw [amax, ← bits_f32_neg_inf]
  exact h1

end Cert.RowMax

end
-- ==== Proof.KernelBlocks.lean ====
/- What one grid point of each of the kernel's two launches computes, at an index: a row's scale (`scale_at`), its codes
   (`codes_at`) and its adapter input (`t_at`) from a block of rows, and an entry of the result (`y_at`) from a block of rows and a
   block of columns. -/
module

public import proofs.«01_k».proof.Proof.RowMax
public import proofs.«01_k».proof.Proof.Gen.KernelIdeal.Skeleton

@[expose] public section

set_option maxRecDepth 16384

noncomputable section

namespace Cert.KernelIdeal.Blocks

open Cert.KernelIdeal Cert.KernelIdeal.Gen Idealize.ShloMosaic Cert.Scale Cert.RowMax

/-- A row's greatest magnitude over 448, as the kernel has it. -/
def quot (v0 : Vec Ideal S128x18432 .bf16) (r : Fin 128) : EReal :=
  amax (fun k => v0 (ix2 r k)) * Ideal.ofBits .f32 0x3B124925#32

theorem pay3_at (v0 : Vec Ideal S128x18432 .bf16) (r : Fin 128) (k : Fin 18432) :
    k0_pay3 (F := Ideal) v0 (ix2 r k) = v0 (ix2 r k) := by
  pointwise [k0_pay3]

/-- The kernel's maximum reduction of a block, at a row. -/
theorem rowMax_at (v0 : Vec Ideal S128x18432 .bf16) (r : Fin 128) :
    multiReduction .maximumf [1] S128 (absf (k0_pay3 (F := Ideal) v0)) 0xFF80#16 reduces_S128x18432_S128 (.inr rfl) rfl (ix1 r)
      = amax fun k => v0 (ix2 r k) := by
  refine (max2 _ _ _ _ _ r).trans ?_
  rw [amax_def, ← bits_bf16_neg_inf]
  refine congrArg (fun f => Finset.fold max _ f Finset.univ) (funext fun k => ?_)
  show FloatOps.absf (k0_pay3 (F := Ideal) v0 (ix2 r k)) = _
  rw [pay3_at]
  rfl

/-- The kernel's exponents of a block's rows, from their greatest magnitudes. -/
def expOf (A : FVec Ideal S128 .bf16) : IVec S128x1 32 :=
  have v4 : FVec Ideal S128x1 .bf16 := shapeCast S128x1 A shapeCasts_S128_S128x1
  have v5 : FVec Ideal S128x1 .f32 := extf .f32 v4 bitsLt_bf16_f32
  have cst_1 : Ideal .f32 := Scalar.ofBits .f32 0x3B124925#32
  have v6 : FVec Ideal S128x1 .f32 := broadcast S128x1 cst_1
  have v7 : FVec Ideal S128x1 .f32 := mulf v5 v6
  have v8 : IVec S1x256 32 := iota .tc S1x256 32 [1] iota_S1x256_d1_w32
  have v9 : IVec S1x256 32 := broadcast S1x256 23#32
  have v10 : IVec S1x256 32 := shli v8 v9
  have v11 : FVec Ideal S1x256 .f32 := bitcastToFloat .f32 v10
  have v12 : FVec Ideal S128x256 .f32 := broadcastTo S128x256 v7 broadcasts_S128x1_S128x256
  have v13 : FVec Ideal S128x256 .f32 := broadcastTo S128x256 v11 broadcasts_S1x256_S128x256
  have v14 : IVec S128x256 1 := cmpf .oge v12 v13
  have v15 : IVec S1x256 32 := shapeCast S1x256 v8 shapeCasts_S1x256_S1x256
  have v16 : IVec S128x256 32 := broadcastTo S128x256 v15 broadcasts_S1x256_S128x256
  have v17 : IVec S128x256 32 := broadcast S128x256 0#32
  have v18 : IVec S128x256 32 := select v14 v16 v17
  have v19 : IVec S128 32 := multiReductionI .maxsi [1] S128 v18 2147483648#32 reduces_S128x256_S128 rfl
  have v20 : IVec S128x1 32 := shapeCast S128x1 v19 shapeCasts_S128_S128x1
  have v21 : IVec S128x1 32 := broadcast S128x1 0#32
  have v22 : IVec S128x1 1 := cmpi .eq v20 v21
  have v23 : IVec S128x1 32 := broadcast S128x1 255#32
  have v24 : IVec S128x1 1 := cmpi .eq v20 v23
  have v25 : IVec S128x1 1 := ori v22 v24
  have v26 : IVec S128x1 32 := broadcast S128x1 126#32
  have v27 : IVec S128x1 32 := subi v20 v26
  have v28 : IVec S128x1 32 := broadcast S128x1 0#32
  have v29 : IVec S128x1 32 := select v25 v28 v27
  v29

theorem pay4_eq (v0 : Vec Ideal S128x18432 .bf16) : k0_pay4 (F := Ideal) v0 = expOf
    (multiReduction .maximumf [1] S128 (absf (k0_pay3 (F := Ideal) v0)) 0xFF80#16 reduces_S128x18432_S128 (.inr rfl) rfl) := by
  unfold k0_pay4 expOf
  rfl

theorem expOf_at (A : FVec Ideal S128 .bf16) (r : Fin 128) :
    expOf A (ix2 r 0) = expWord (A (ix1 r) * Ideal.ofBits .f32 0x3B124925#32) := by
  unfold expWord field
  pointwise [expOf]

/-- The kernel's exponent of a row. -/
theorem exp_at (v0 : Vec Ideal S128x18432 .bf16) (r : Fin 128) : k0_pay4 (F := Ideal) v0 (ix2 r 0) = expWord (quot v0 r) := by
  rw [pay4_eq, expOf_at, rowMax_at]
  rfl

/-- A row's scale. -/
theorem scale_at (v0 : Vec Ideal S128x18432 .bf16) (r : Fin 128) : k0_pay5 (F := Ideal) v0 (ix2 r 0) = kScale (quot v0 r) := by
  have hA := exp_at v0 r
  unfold k0_pay5
  generalize k0_pay4 (F := Ideal) v0 = A at hA ⊢
  unfold kScale
  rw [← hA]
  pointwise

/-- A row's codes. -/
theorem codes_at (v0 : Vec Ideal S128x18432 .bf16) (r : Fin 128) (k : Fin 18432) :
    k0_pay1 (F := Ideal) (k0_pay6 v0) (Scalar.ofBits .f32 0xC3E00000#32) (ix2 r k)
      = min (Ideal.ofBits .f32 0x43E00000#32) (max (Ideal.ofBits .f32 0xC3E00000#32) (v0 (ix2 r k) * kInv (quot v0 r))) := by
  have hA := exp_at v0 r
  unfold k0_pay1 k0_pay6
  generalize k0_pay4 (F := Ideal) v0 = A at hA ⊢
  unfold kInv
  rw [← hA]
  pointwise [k0_pay3]

/-- A row's adapter input. -/
theorem t_at (v0 : Vec Ideal S128x18432 .bf16) (v : Vec Ideal S18432x64 .bf16) (r : Fin 128) (k : Fin 64) :
    k0_pay2 (F := Ideal) (k0_pay3 v0) v (ix2 r k) = ∑ x : Fin 18432, v0 (ix2 r x) * v (ix2 x k) := by
  pointwise [k0_pay2, k0_pay3]

/-- An entry of the result. -/
theorem y_at (v0 : Vec Ideal S512x18432 .fp8e4m3) (v2 : Vec Ideal S18432x512 .fp8e4m3) (v4 : Vec Ideal S512x1 .f32)
    (v8 : Vec Ideal S1x512 .f32) (v12 : Vec Ideal S512x64 .bf16) (v14 : Vec Ideal S64x512 .bf16) (r : Fin 512) (k : Fin 512) :
    k1_pay1 (F := Ideal) v0 v2 v4 v8 v12 v14 (ix2 r k)
      = (∑ x : Fin 18432, v0 (ix2 r x) * v2 (ix2 x k)) * v4 (ix2 r 0) * v8 (ix2 0 k)
        + (∑ x : Fin 64, v12 (ix2 r x) * v14 (ix2 x k)) * Ideal.ofBits .f32 0x40000000#32 := by
  pointwise [k1_pay1]

end Cert.KernelIdeal.Blocks

end
-- ==== Proof.Region0.lean ====
/- What the first launch leaves in its three arrays: every row's codes (`codes_final`), scale (`scale_final`) and adapter input
   (`t_final`) as functions of the array of rows and of the adapter's first factor. Grid point `t` holds rows `128 t` to
   `128 t + 127`. -/
module

public import proofs.«01_k».proof.Proof.KernelBlocks
public import proofs.«01_k».proof.Proof.Gen.KernelIdeal.Frame
public import Idealize.ShloMosaic.Lib.Pipeline.Value

@[expose] public section

set_option maxRecDepth 16384

noncomputable section

namespace Cert.KernelIdeal.Region0

open Cert.KernelIdeal Cert.KernelIdeal.Gen Cert.KernelIdeal.Blocks Cert.Scale Cert.RowMax
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The arrays -/

/-- A row's greatest magnitude over 448. -/
def rowQ (X : Vec Ideal S4096x18432 .bf16) (i : Fin 4096) : EReal :=
  amax (fun k => X (ix2 i k)) * Ideal.ofBits .f32 0x3B124925#32

/-- The codes at a row and a column. -/
def codeAt (X : Vec Ideal S4096x18432 .bf16) (i : Fin 4096) (k : Fin 18432) : EReal :=
  min (Ideal.ofBits .f32 0x43E00000#32) (max (Ideal.ofBits .f32 0xC3E00000#32) (X (ix2 i k) * kInv (rowQ X i)))

/-- The adapter's input at a row and a column. -/
def tAt (X : Vec Ideal S4096x18432 .bf16) (A : Vec Ideal S18432x64 .bf16) (i : Fin 4096) (k : Fin 64) : EReal :=
  ∑ x : Fin 18432, X (ix2 i x) * A (ix2 x k)

/-- The array of codes. -/
def codesArr (X : Vec Ideal S4096x18432 .bf16) : Vec Ideal S4096x18432 .fp8e4m3 := fun j => codeAt X (j 0) (j 1)

/-- The array of scales. -/
def scaleArr (X : Vec Ideal S4096x18432 .bf16) : Vec Ideal S4096x1 .f32 := fun j => kScale (rowQ X (j 0))

/-- The array of the adapter's inputs. -/
def tArr (X : Vec Ideal S4096x18432 .bf16) (A : Vec Ideal S18432x64 .bf16) : Vec Ideal S4096x64 .bf16 :=
  fun j => tAt X A (j 0) (j 1)

theorem tArr_at (X : Vec Ideal S4096x18432 .bf16) (A : Vec Ideal S18432x64 .bf16) (i : Fin 4096) (k : Fin 64) :
    tArr X A (ix2 i k) = ∑ x : Fin 18432, X (ix2 i x) * A (ix2 x k) := rfl

/-! ## The blocks -/

theorem lt_N (t : Fin cfg0.N) : t.val < 32 := by
  have h : cfg0.N = 32 := by decide +kernel
  omega

/-- The row of the arrays that is row `r` of point `t`'s blocks. -/
def row (t : Fin cfg0.N) (r : Fin 128) : Fin 4096 := ⟨t.val * 128 + r.val, by have := lt_N t; omega⟩

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem emb0 (t : Fin cfg0.N) (r : Fin 128) (k : Fin 18432) : ((cfg0.win 0).blk t).view.emb (ix2 r k) = ix2 (row t r) k := by
  obtain ⟨e0, e1⟩ := idx0 t
  funext a; apply Fin.ext
  match a with
  | ⟨0, _⟩ => show win0_0.index t (0 : Fin 2) * 128 + 1 * r.val = t.val * 128 + r.val; omega
  | ⟨1, _⟩ => show win0_0.index t (1 : Fin 2) * 18432 + 1 * k.val = k.val; omega

theorem emb1 (t : Fin cfg0.N) (r : Fin 18432) (k : Fin 64) : ((cfg0.win 1).blk t).view.emb (ix2 r k) = ix2 r k := by
  obtain ⟨e0, e1⟩ := idx1 t
  funext a; apply Fin.ext
  match a with
  | ⟨0, _⟩ => show win0_1.index t (0 : Fin 2) * 18432 + 1 * r.val = r.val; omega
  | ⟨1, _⟩ => show win0_1.index t (1 : Fin 2) * 64 + 1 * k.val = k.val; omega

theorem emb2 (t : Fin cfg0.N) (r : Fin 128) (k : Fin 18432) : ((cfg0.win 2).blk t).view.emb (ix2 r k) = ix2 (row t r) k := by
  obtain ⟨e0, e1⟩ := idx2 t
  funext a; apply Fin.ext
  match a with
  | ⟨0, _⟩ => show win0_2.index t (0 : Fin 2) * 128 + 1 * r.val = t.val * 128 + r.val; omega
  | ⟨1, _⟩ => show win0_2.index t (1 : Fin 2) * 18432 + 1 * k.val = k.val; omega

theorem emb3 (t : Fin cfg0.N) (r : Fin 128) (k : Fin 1) : ((cfg0.win 3).blk t).view.emb (ix2 r k) = ix2 (row t r) k := by
  obtain ⟨e0, e1⟩ := idx3 t
  funext a; apply Fin.ext
  match a with
  | ⟨0, _⟩ => show win0_3.index t (0 : Fin 2) * 128 + 1 * r.val = t.val * 128 + r.val; omega
  | ⟨1, _⟩ => show win0_3.index t (1 : Fin 2) * 1 + 1 * k.val = k.val; omega

theorem emb4 (t : Fin cfg0.N) (r : Fin 128) (k : Fin 64) : ((cfg0.win 4).blk t).view.emb (ix2 r k) = ix2 (row t r) k := by
  obtain ⟨e0, e1⟩ := idx4 t
  funext a; apply Fin.ext
  match a with
  | ⟨0, _⟩ => show win0_4.index t (0 : Fin 2) * 128 + 1 * r.val = t.val * 128 + r.val; omega
  | ⟨1, _⟩ => show win0_4.index t (1 : Fin 2) * 64 + 1 * k.val = k.val; omega

/-- The block of rows at a point. -/
abbrev xs (c : Dev nD) (t : Fin cfg0.N) : Vec Ideal S128x18432 .bf16 := iblk0 V c 0 t

/-- The adapter's first factor at a point. -/
abbrev fac (c : Dev nD) (t : Fin cfg0.N) : Vec Ideal S18432x64 .bf16 := iblk0 V c 1 t

theorem xs_at (c : Dev nD) (t : Fin cfg0.N) (r : Fin 128) (k : Fin 18432) : xs V c t (ix2 r k) = V c main_v0 (ix2 (row t r) k) := by
  show V c main_v0 (((cfg0.win 0).blk t).view.emb (ix2 r k)) = _
  rw [emb0]

theorem as_at (c : Dev nD) (t : Fin cfg0.N) (r : Fin 18432) (k : Fin 64) : fac V c t (ix2 r k) = V c main_arg3 (ix2 r k) := by
  show V c main_arg3 (((cfg0.win 1).blk t).view.emb (ix2 r k)) = _
  rw [emb1]

theorem quot_at (c : Dev nD) (t : Fin cfg0.N) (r : Fin 128) : quot (xs V c t) r = rowQ (V c main_v0) (row t r) := by
  unfold quot rowQ
  exact congrArg (fun f => amax f * Ideal.ofBits .f32 0x3B124925#32) (funext fun k => xs_at V c t r k)

theorem hz : (![0, 0] : Fin 2 → Nat) = fun _ => 0 := funext fun a => by fin_cases a <;> rfl

/-! ## The arrays after the launch -/

theorem out2_eq (x0 : Vec Ideal S128x18432 .bf16) (x1 : Vec Ideal S18432x64 .bf16) :
    out0_2 (F := Ideal) x0 x1 = k0_pay1 (k0_pay6 x0) (Scalar.ofBits .f32 0xC3E00000#32) := by
  unfold out0_2
  rw [View.canon_unit_zero hz, View.ld_unit_zero (S := S128x18432) hz _ x0]

theorem out3_eq (x0 : Vec Ideal S128x18432 .bf16) (x1 : Vec Ideal S18432x64 .bf16) : out0_3 (F := Ideal) x0 x1 = k0_pay5 x0 := by
  unfold out0_3
  rw [View.canon_unit_zero hz, View.ld_unit_zero (S := S128x18432) hz _ x0]

theorem out4_eq (x0 : Vec Ideal S128x18432 .bf16) (x1 : Vec Ideal S18432x64 .bf16) :
    out0_4 (F := Ideal) x0 x1 = k0_pay2 (k0_pay3 x0) x1 := by
  unfold out0_4
  rw [View.canon_unit_zero hz, View.ld_unit_zero (S := S128x18432) hz _ x0, View.ld_unit_zero (S := S18432x64) hz _ x1]

theorem block2 (c : Dev nD) (t : Fin cfg0.N) (r : Fin 128) (k : Fin 18432) :
    out0_2 (F := Ideal) (xs V c t) (fac V c t) (ix2 r k) = codesArr (V c main_v0) (ix2 (row t r) k) := by
  rw [out2_eq, codes_at, quot_at, xs_at]
  rfl

theorem block3 (c : Dev nD) (t : Fin cfg0.N) (r : Fin 128) (k : Fin 1) :
    out0_3 (F := Ideal) (xs V c t) (fac V c t) (ix2 r k) = scaleArr (V c main_v0) (ix2 (row t r) k) := by
  rw [out3_eq, Subsingleton.elim k 0, scale_at, quot_at]
  rfl

theorem block4 (c : Dev nD) (t : Fin cfg0.N) (r : Fin 128) (k : Fin 64) :
    out0_4 (F := Ideal) (xs V c t) (fac V c t) (ix2 r k) = tArr (V c main_v0) (V c main_arg3) (ix2 (row t r) k) := by
  rw [out4_eq, t_at, tArr_at]
  exact Finset.sum_congr rfl fun x _ => by rw [xs_at, as_at]

/-- What point `t` writes back of the codes is its block of the array of codes. -/
theorem flushed2 (c : Dev nD) (t : Fin cfg0.N) :
    (dat0 V c).flushed 2 t = ((cfg0.win 2).blk t).view.read (Elt Ideal) (codesArr (V c main_v0)) := by
  show (cfg0.win 2).cut (grid0.coords t) ((dat0 V c).after 2 t) = _
  rw [after0_2]
  funext j
  show out0_2 (F := Ideal) (xs V c t) (fac V c t) j = codesArr (V c main_v0) (((cfg0.win 2).blk t).view.emb j)
  rw [show j = ix2 (j 0) (j 1) from eq_ix2 j]
  exact (block2 V c t (j 0) (j 1)).trans (congrArg (codesArr (V c main_v0)) (emb2 t (j 0) (j 1)).symm)

/-- What point `t` writes back of the scales is its block of the array of scales. -/
theorem flushed3 (c : Dev nD) (t : Fin cfg0.N) :
    (dat0 V c).flushed 3 t = ((cfg0.win 3).blk t).view.read (Elt Ideal) (scaleArr (V c main_v0)) := by
  show (cfg0.win 3).cut (grid0.coords t) ((dat0 V c).after 3 t) = _
  rw [after0_3]
  funext j
  show out0_3 (F := Ideal) (xs V c t) (fac V c t) j = scaleArr (V c main_v0) (((cfg0.win 3).blk t).view.emb j)
  rw [show j = ix2 (j 0) (j 1) from eq_ix2 j]
  exact (block3 V c t (j 0) (j 1)).trans (congrArg (scaleArr (V c main_v0)) (emb3 t (j 0) (j 1)).symm)

theorem flushed4_of (c : Dev nD) (t : Fin cfg0.N) (G : Vec Ideal S4096x64 .bf16)
    (h : ∀ r k, out0_4 (F := Ideal) (xs V c t) (fac V c t) (ix2 r k) = G (ix2 (row t r) k)) :
    (dat0 V c).flushed 4 t = ((cfg0.win 4).blk t).view.read (Elt Ideal) G := by
  show (cfg0.win 4).cut (grid0.coords t) ((dat0 V c).after 4 t) = _
  rw [after0_4]
  funext j
  show out0_4 (F := Ideal) (xs V c t) (fac V c t) j = G (((cfg0.win 4).blk t).view.emb j)
  rw [show j = ix2 (j 0) (j 1) from eq_ix2 j]
  exact (h (j 0) (j 1)).trans (congrArg G (emb4 t (j 0) (j 1)).symm)

/-- What point `t` writes back of the adapter's inputs is its block of their array. -/
theorem flushed4 (c : Dev nD) (t : Fin cfg0.N) :
    (dat0 V c).flushed 4 t = ((cfg0.win 4).blk t).view.read (Elt Ideal) (tArr (V c main_v0) (V c main_arg3)) :=
  flushed4_of V c t _ (block4 V c t)

/-- The point that holds a row. -/
def point (i : Fin 4096) : Fin cfg0.N := ⟨i.val / 128, by
  have h : cfg0.N = 32 := by decide +kernel
  omega⟩

/-- The row of its point's blocks that a row is. -/
def off (i : Fin 4096) : Fin 128 := ⟨i.val % 128, Nat.mod_lt _ (by norm_num)⟩

theorem row_point (i : Fin 4096) : row (point i) (off i) = i := by
  apply Fin.ext
  show i.val / 128 * 128 + i.val % 128 = i.val
  omega

theorem covered2 (i : S4096x18432.Idx) : ∃ t : Fin cfg0.N, (cfg0.win 2).flush t = true ∧ i ∈ ((cfg0.win 2).blk t).view.set :=
  ⟨point (i 0), flush0_2 _, by
    have e := (emb2 (point (i 0)) (off (i 0)) (i 1)).trans
      ((congrArg (fun r => ix2 r (i 1)) (row_point (i 0))).trans (eq_ix2 i).symm)
    exact Eq.subst (motive := fun z => z ∈ ((cfg0.win 2).blk (point (i 0))).view.set) e
      (((cfg0.win 2).blk (point (i 0))).view.emb_mem_set _)⟩

theorem covered3 (i : S4096x1.Idx) : ∃ t : Fin cfg0.N, (cfg0.win 3).flush t = true ∧ i ∈ ((cfg0.win 3).blk t).view.set :=
  ⟨point (i 0), flush0_3 _, by
    have e := (emb3 (point (i 0)) (off (i 0)) (i 1)).trans
      ((congrArg (fun r => ix2 r (i 1)) (row_point (i 0))).trans (eq_ix2 i).symm)
    exact Eq.subst (motive := fun z => z ∈ ((cfg0.win 3).blk (point (i 0))).view.set) e
      (((cfg0.win 3).blk (point (i 0))).view.emb_mem_set _)⟩

theorem covered4 (i : S4096x64.Idx) : ∃ t : Fin cfg0.N, (cfg0.win 4).flush t = true ∧ i ∈ ((cfg0.win 4).blk t).view.set :=
  ⟨point (i 0), flush0_4 _, by
    have e := (emb4 (point (i 0)) (off (i 0)) (i 1)).trans
      ((congrArg (fun r => ix2 r (i 1)) (row_point (i 0))).trans (eq_ix2 i).symm)
    exact Eq.subst (motive := fun z => z ∈ ((cfg0.win 4).blk (point (i 0))).view.set) e
      (((cfg0.win 4).blk (point (i 0))).view.emb_mem_set _)⟩

/-- The codes after the launch. -/
theorem codes_final (c : Dev nD) : (dat0 V c).arrAt 2 cfg0.N = codesArr (V c main_v0) :=
  (dat0 V c).arrAt_eq_of_cover 2 (codesArr (V c main_v0)) (fun t _ => flushed2 V c t) covered2

/-- The scales after the launch. -/
theorem scale_final (c : Dev nD) : (dat0 V c).arrAt 3 cfg0.N = scaleArr (V c main_v0) :=
  (dat0 V c).arrAt_eq_of_cover 3 (scaleArr (V c main_v0)) (fun t _ => flushed3 V c t) covered3

/-- The adapter's inputs after the launch. -/
theorem t_final (c : Dev nD) : (dat0 V c).arrAt 4 cfg0.N = tArr (V c main_v0) (V c main_arg3) :=
  (dat0 V c).arrAt_eq_of_cover 4 (tArr (V c main_v0) (V c main_arg3)) (fun t _ => flushed4 V c t) covered4

end Cert.KernelIdeal.Region0

end
-- ==== Proof.Region1.lean ====
/- What the second launch leaves in its array (`y_final`): the codes by the weights times the row's scale and the column's,
   plus twice the adapter's inputs by its second factor. Grid point `t` holds rows `512 (t / 6)` on and columns
   `512 (t mod 6)` on. -/
module

public import proofs.«01_k».proof.Proof.KernelBlocks
public import proofs.«01_k».proof.Proof.Gen.KernelIdeal.Frame
public import Idealize.ShloMosaic.Lib.Pipeline.Value

@[expose] public section

set_option maxRecDepth 16384

noncomputable section

namespace Cert.KernelIdeal.Region1

open Cert.KernelIdeal Cert.KernelIdeal.Gen Cert.KernelIdeal.Blocks
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The array -/

/-- The result at a row and a column, of the codes, the weights, the two scales, the adapter's inputs and its second factor. -/
def yAt (q : Vec Ideal S4096x18432 .fp8e4m3) (w : Vec Ideal S18432x3072 .fp8e4m3) (s : Vec Ideal S4096x1 .f32)
    (ws : Vec Ideal S1x3072 .f32) (u : Vec Ideal S4096x64 .bf16) (b : Vec Ideal S64x3072 .bf16) (i : Fin 4096) (k : Fin 3072) :
    EReal :=
  (∑ x : Fin 18432, q (ix2 i x) * w (ix2 x k)) * s (ix2 i 0) * ws (ix2 0 k)
    + (∑ x : Fin 64, u (ix2 i x) * b (ix2 x k)) * Ideal.ofBits .f32 0x40000000#32

/-- The array of results. -/
def yArr (q : Vec Ideal S4096x18432 .fp8e4m3) (w : Vec Ideal S18432x3072 .fp8e4m3) (s : Vec Ideal S4096x1 .f32)
    (ws : Vec Ideal S1x3072 .f32) (u : Vec Ideal S4096x64 .bf16) (b : Vec Ideal S64x3072 .bf16) : Vec Ideal S4096x3072 .bf16 :=
  fun j => yAt q w s ws u b (j 0) (j 1)

theorem yArr_at (q : Vec Ideal S4096x18432 .fp8e4m3) (w : Vec Ideal S18432x3072 .fp8e4m3) (s : Vec Ideal S4096x1 .f32)
    (ws : Vec Ideal S1x3072 .f32) (u : Vec Ideal S4096x64 .bf16) (b : Vec Ideal S64x3072 .bf16) (i : Fin 4096) (k : Fin 3072) :
    yArr q w s ws u b (ix2 i k) = (∑ x : Fin 18432, q (ix2 i x) * w (ix2 x k)) * s (ix2 i 0) * ws (ix2 0 k)
      + (∑ x : Fin 64, u (ix2 i x) * b (ix2 x k)) * Ideal.ofBits .f32 0x40000000#32 := rfl

/-! ## The blocks -/

theorem N_eq : cfg1.N = 48 := by decide +kernel

theorem lt_N (t : Fin cfg1.N) : t.val < 48 := by
  have h := N_eq
  omega

/-- The row of the arrays that is row `r` of point `t`'s blocks. -/
def row (t : Fin cfg1.N) (r : Fin 512) : Fin 4096 := ⟨t.val / 6 * 512 + r.val, by have := lt_N t; omega⟩

/-- The column of the arrays that is column `k` of point `t`'s blocks. -/
def col (t : Fin cfg1.N) (k : Fin 512) : Fin 3072 := ⟨t.val % 6 * 512 + k.val, by omega⟩

theorem idx0 : ∀ t : Fin cfg1.N, win1_0.index t (0 : Fin 2) = t.val / 6 ∧ win1_0.index t (1 : Fin 2) = 0 :=
  (by decide +kernel : ∀ t : Fin grid1.N, _)

theorem idx1 : ∀ t : Fin cfg1.N, win1_1.index t (0 : Fin 2) = 0 ∧ win1_1.index t (1 : Fin 2) = t.val % 6 :=
  (by decide +kernel : ∀ t : Fin grid1.N, _)

theorem idx2 : ∀ t : Fin cfg1.N, win1_2.index t (0 : Fin 2) = t.val / 6 ∧ win1_2.index t (1 : Fin 2) = 0 :=
  (by decide +kernel : ∀ t : Fin grid1.N, _)

theorem idx3 : ∀ t : Fin cfg1.N, win1_3.index t (0 : Fin 2) = 0 ∧ win1_3.index t (1 : Fin 2) = t.val % 6 :=
  (by decide +kernel : ∀ t : Fin grid1.N, _)

theorem idx4 : ∀ t : Fin cfg1.N, win1_4.index t (0 : Fin 2) = t.val / 6 ∧ win1_4.index t (1 : Fin 2) = 0 :=
  (by decide +kernel : ∀ t : Fin grid1.N, _)

theorem idx5 : ∀ t : Fin cfg1.N, win1_5.index t (0 : Fin 2) = 0 ∧ win1_5.index t (1 : Fin 2) = t.val % 6 :=
  (by decide +kernel : ∀ t : Fin grid1.N, _)

theorem idx6 : ∀ t : Fin cfg1.N, win1_6.index t (0 : Fin 2) = t.val / 6 ∧ win1_6.index t (1 : Fin 2) = t.val % 6 :=
  (by decide +kernel : ∀ t : Fin grid1.N, _)

theorem emb0 (t : Fin cfg1.N) (r : Fin 512) (k : Fin 18432) : ((cfg1.win 0).blk t).view.emb (ix2 r k) = ix2 (row t r) k := by
  obtain ⟨e0, e1⟩ := idx0 t
  funext a; apply Fin.ext
  match a with
  | ⟨0, _⟩ => show win1_0.index t (0 : Fin 2) * 512 + 1 * r.val = t.val / 6 * 512 + r.val; omega
  | ⟨1, _⟩ => show win1_0.index t (1 : Fin 2) * 18432 + 1 * k.val = k.val; omega

theorem emb1 (t : Fin cfg1.N) (r : Fin 18432) (k : Fin 512) : ((cfg1.win 1).blk t).view.emb (ix2 r k) = ix2 r (col t k) := by
  obtain ⟨e0, e1⟩ := idx1 t
  funext a; apply Fin.ext
  match a with
  | ⟨0, _⟩ => show win1_1.index t (0 : Fin 2) * 18432 + 1 * r.val = r.val; omega
  | ⟨1, _⟩ => show win1_1.index t (1 : Fin 2) * 512 + 1 * k.val = t.val % 6 * 512 + k.val; omega

theorem emb2 (t : Fin cfg1.N) (r : Fin 512) (k : Fin 1) : ((cfg1.win 2).blk t).view.emb (ix2 r k) = ix2 (row t r) k := by
  obtain ⟨e0, e1⟩ := idx2 t
  funext a; apply Fin.ext
  match a with
  | ⟨0, _⟩ => show win1_2.index t (0 : Fin 2) * 512 + 1 * r.val = t.val / 6 * 512 + r.val; omega
  | ⟨1, _⟩ => show win1_2.index t (1 : Fin 2) * 1 + 1 * k.val = k.val; omega

theorem emb3 (t : Fin cfg1.N) (r : Fin 1) (k : Fin 512) : ((cfg1.win 3).blk t).view.emb (ix2 r k) = ix2 r (col t k) := by
  obtain ⟨e0, e1⟩ := idx3 t
  funext a; apply Fin.ext
  match a with
  | ⟨0, _⟩ => show win1_3.index t (0 : Fin 2) * 1 + 1 * r.val = r.val; omega
  | ⟨1, _⟩ => show win1_3.index t (1 : Fin 2) * 512 + 1 * k.val = t.val % 6 * 512 + k.val; omega

theorem emb4 (t : Fin cfg1.N) (r : Fin 512) (k : Fin 64) : ((cfg1.win 4).blk t).view.emb (ix2 r k) = ix2 (row t r) k := by
  obtain ⟨e0, e1⟩ := idx4 t
  funext a; apply Fin.ext
  match a with
  | ⟨0, _⟩ => show win1_4.index t (0 : Fin 2) * 512 + 1 * r.val = t.val / 6 * 512 + r.val; omega
  | ⟨1, _⟩ => show win1_4.index t (1 : Fin 2) * 64 + 1 * k.val = k.val; omega

theorem emb5 (t : Fin cfg1.N) (r : Fin 64) (k : Fin 512) : ((cfg1.win 5).blk t).view.emb (ix2 r k) = ix2 r (col t k) := by
  obtain ⟨e0, e1⟩ := idx5 t
  funext a; apply Fin.ext
  match a with
  | ⟨0, _⟩ => show win1_5.index t (0 : Fin 2) * 64 + 1 * r.val = r.val; omega
  | ⟨1, _⟩ => show win1_5.index t (1 : Fin 2) * 512 + 1 * k.val = t.val % 6 * 512 + k.val; omega

theorem emb6 (t : Fin cfg1.N) (r : Fin 512) (k : Fin 512) : ((cfg1.win 6).blk t).view.emb (ix2 r k) = ix2 (row t r) (col t k) := by
  obtain ⟨e0, e1⟩ := idx6 t
  funext a; apply Fin.ext
  match a with
  | ⟨0, _⟩ => show win1_6.index t (0 : Fin 2) * 512 + 1 * r.val = t.val / 6 * 512 + r.val; omega
  | ⟨1, _⟩ => show win1_6.index t (1 : Fin 2) * 512 + 1 * k.val = t.val % 6 * 512 + k.val; omega

theorem iblk_0 (c : Dev nD) (t : Fin cfg1.N) (r : Fin 512) (k : Fin 18432) :
    (iblk1 V c 0 t : Vec Ideal S512x18432 .fp8e4m3) (ix2 r k) = V c main_v1_0 (ix2 (row t r) k) := by
  show V c main_v1_0 (((cfg1.win 0).blk t).view.emb (ix2 r k)) = _
  rw [emb0]

theorem iblk_1 (c : Dev nD) (t : Fin cfg1.N) (r : Fin 18432) (k : Fin 512) :
    (iblk1 V c 1 t : Vec Ideal S18432x512 .fp8e4m3) (ix2 r k) = V c main_arg1 (ix2 r (col t k)) := by
  show V c main_arg1 (((cfg1.win 1).blk t).view.emb (ix2 r k)) = _
  rw [emb1]

theorem iblk_2 (c : Dev nD) (t : Fin cfg1.N) (r : Fin 512) (k : Fin 1) :
    (iblk1 V c 2 t : Vec Ideal S512x1 .f32) (ix2 r k) = V c main_v1_1 (ix2 (row t r) k) := by
  show V c main_v1_1 (((cfg1.win 2).blk t).view.emb (ix2 r k)) = _
  rw [emb2]

theorem iblk_3 (c : Dev nD) (t : Fin cfg1.N) (r : Fin 1) (k : Fin 512) :
    (iblk1 V c 3 t : Vec Ideal S1x512 .f32) (ix2 r k) = V c main_v2 (ix2 r (col t k)) := by
  show V c main_v2 (((cfg1.win 3).blk t).view.emb (ix2 r k)) = _
  rw [emb3]

theorem iblk_4 (c : Dev nD) (t : Fin cfg1.N) (r : Fin 512) (k : Fin 64) :
    (iblk1 V c 4 t : Vec Ideal S512x64 .bf16) (ix2 r k) = V c main_v1_2 (ix2 (row t r) k) := by
  show V c main_v1_2 (((cfg1.win 4).blk t).view.emb (ix2 r k)) = _
  rw [emb4]

theorem iblk_5 (c : Dev nD) (t : Fin cfg1.N) (r : Fin 64) (k : Fin 512) :
    (iblk1 V c 5 t : Vec Ideal S64x512 .bf16) (ix2 r k) = V c main_arg4 (ix2 r (col t k)) := by
  show V c main_arg4 (((cfg1.win 5).blk t).view.emb (ix2 r k)) = _
  rw [emb5]

theorem hz : (![0, 0] : Fin 2 → Nat) = fun _ => 0 := funext fun a => by fin_cases a <;> rfl

/-! ## The array after the launch -/

theorem out6_eq (x0 : Vec Ideal S512x18432 .fp8e4m3) (x1 : Vec Ideal S18432x512 .fp8e4m3) (x2 : Vec Ideal S512x1 .f32)
    (x3 : Vec Ideal S1x512 .f32) (x4 : Vec Ideal S512x64 .bf16) (x5 : Vec Ideal S64x512 .bf16) :
    out1_6 (F := Ideal) x0 x1 x2 x3 x4 x5 = k1_pay1 x0 x1 x2 x3 x4 x5 := by
  unfold out1_6
  rw [View.canon_unit_zero hz, View.ld_unit_zero (S := S512x18432) hz _ x0, View.ld_unit_zero (S := S18432x512) hz _ x1,
    View.ld_unit_zero (S := S512x1) hz _ x2, View.ld_unit_zero (S := S1x512) hz _ x3,
    View.ld_unit_zero (S := S512x64) hz _ x4, View.ld_unit_zero (S := S64x512) hz _ x5]

/-- The block point `t` writes, at an entry. -/
theorem block6 (c : Dev nD) (t : Fin cfg1.N) (r : Fin 512) (k : Fin 512) :
    out1_6 (F := Ideal) (iblk1 V c 0 t) (iblk1 V c 1 t) (iblk1 V c 2 t) (iblk1 V c 3 t) (iblk1 V c 4 t) (iblk1 V c 5 t) (ix2 r k)
      = yArr (V c main_v1_0) (V c main_arg1) (V c main_v1_1) (V c main_v2) (V c main_v1_2) (V c main_arg4)
          (ix2 (row t r) (col t k)) := by
  rw [out6_eq, y_at, yArr_at, iblk_2, iblk_3]
  refine congrArg₂ (fun p q : EReal => p * V c main_v1_1 (ix2 (row t r) 0) * V c main_v2 (ix2 0 (col t k))
    + q * Ideal.ofBits .f32 0x40000000#32) ?_ ?_
  · exact Finset.sum_congr rfl fun x _ => by rw [iblk_0, iblk_1]
  · exact Finset.sum_congr rfl fun x _ => by rw [iblk_4, iblk_5]

theorem flushed6_of (c : Dev nD) (t : Fin cfg1.N) (G : Vec Ideal S4096x3072 .bf16)
    (h : ∀ r k, out1_6 (F := Ideal) (iblk1 V c 0 t) (iblk1 V c 1 t) (iblk1 V c 2 t) (iblk1 V c 3 t) (iblk1 V c 4 t)
      (iblk1 V c 5 t) (ix2 r k) = G (ix2 (row t r) (col t k))) :
    (dat1 V c).flushed 6 t = ((cfg1.win 6).blk t).view.read (Elt Ideal) G := by
  show (cfg1.win 6).cut (grid1.coords t) ((dat1 V c).after 6 t) = _
  rw [after1_6]
  funext j
  show out1_6 (F := Ideal) (iblk1 V c 0 t) (iblk1 V c 1 t) (iblk1 V c 2 t) (iblk1 V c 3 t) (iblk1 V c 4 t) (iblk1 V c 5 t) j
    = G (((cfg1.win 6).blk t).view.emb j)
  rw [show j = ix2 (j 0) (j 1) from eq_ix2 j]
  exact (h (j 0) (j 1)).trans (congrArg G (emb6 t (j 0) (j 1)).symm)

/-- The point that holds an entry. -/
def point (i : Fin 4096) (k : Fin 3072) : Fin cfg1.N := ⟨i.val / 512 * 6 + k.val / 512, by rw [N_eq]; omega⟩

/-- A row or column within its point's block. -/
def off {n : Nat} (i : Fin n) : Fin 512 := ⟨i.val % 512, Nat.mod_lt _ (by norm_num)⟩

theorem row_point (i : Fin 4096) (k : Fin 3072) : row (point i k) (off i) = i := by
  apply Fin.ext
  show (i.val / 512 * 6 + k.val / 512) / 6 * 512 + i.val % 512 = i.val
  omega

theorem col_point (i : Fin 4096) (k : Fin 3072) : col (point i k) (off k) = k := by
  apply Fin.ext
  show (i.val / 512 * 6 + k.val / 512) % 6 * 512 + k.val % 512 = k.val
  omega

theorem covered6 (i : S4096x3072.Idx) : ∃ t : Fin cfg1.N, (cfg1.win 6).flush t = true ∧ i ∈ ((cfg1.win 6).blk t).view.set :=
  ⟨point (i 0) (i 1), flush1_6 _, by
    have e := (emb6 (point (i 0) (i 1)) (off (i 0)) (off (i 1))).trans
      ((congrArg₂ (fun r k => ix2 r k) (row_point (i 0) (i 1)) (col_point (i 0) (i 1))).trans (eq_ix2 i).symm)
    exact Eq.subst (motive := fun z => z ∈ ((cfg1.win 6).blk (point (i 0) (i 1))).view.set) e
      (((cfg1.win 6).blk (point (i 0) (i 1))).view.emb_mem_set _)⟩

/-- The results after the launch. -/
theorem y_final (c : Dev nD) : (dat1 V c).arrAt 6 cfg1.N
    = yArr (V c main_v1_0) (V c main_arg1) (V c main_v1_1) (V c main_v2) (V c main_v1_2) (V c main_arg4) :=
  (dat1 V c).arrAt_eq_of_cover 6 _ (fun t _ => flushed6_of V c t _ (block6 V c t)) covered6

end Cert.KernelIdeal.Region1

end
-- ==== Proof.RefRows.lean ====
/- What the reference's body computes, at an index: a row's scale (`scale_at`), its codes (`codes_at`) and an entry of the result
   (`y_at`). -/
module

public import proofs.«01_k».proof.Proof.RowMax
public import proofs.«01_k».proof.Proof.Gen.ReferenceIdeal.Skeleton

@[expose] public section

set_option maxRecDepth 16384

noncomputable section

namespace Cert.ReferenceIdeal.Rows

open Cert.ReferenceIdeal Cert.ReferenceIdeal.Gen Idealize.ShloMosaic Cert.RowMax

/-- A row's greatest magnitude. -/
def top (v0 : Vec Ideal S4x1024x18432 .bf16) (b : Fin 4) (s : Fin 1024) : EReal := amax fun k => v0 (ix3 b s k)

/-- The reference's maximum reduction, at a row. -/
theorem rowMax_at (v0 : Vec Ideal S4x1024x18432 .bf16) (b : Fin 4) (s : Fin 1024) :
    multiReduction .maximumf [2] S4x1024 (absf (k0_pay2 (F := Ideal) v0)) 0xFF800000#32 reduces_S4x1024x18432_S4x1024 (.inl rfl) rfl (ix2 b s)
      = top v0 b s := by
  refine (max3 _ _ _ _ _ b s).trans ?_
  unfold top
  rw [amax_def, ← bits_f32_neg_inf]
  refine congrArg (fun f => Finset.fold max _ f Finset.univ) (funext fun k => ?_)
  rfl

/-- The reference's exponents, from the rows' greatest magnitudes. -/
def expOf (A : FVec Ideal S4x1024 .f32) : FVec Ideal S4x1024 .f32 :=
  have cst_2 : Ideal .f32 := Scalar.ofBits .f32 0x3B124925#32
  have v4 : FVec Ideal S4x1024 .f32 := broadcast S4x1024 cst_2
  have v5 : FVec Ideal S4x1024 .f32 := mulf A v4
  have cst_3 : Ideal .f32 := Scalar.ofBits .f32 0x00000000#32
  have v6 : FVec Ideal S4x1024 .f32 := broadcast S4x1024 cst_3
  have v7 : IVec S4x1024 1 := cmpf .oeq A v6
  have v8 : FVec Ideal S4x1024 .f32 := log v5
  have cst_4 : Ideal .f32 := Scalar.ofBits .f32 0x40000000#32
  have v9 : FVec Ideal S4x1024 .f32 := broadcast S4x1024 cst_4
  have v10 : FVec Ideal S4x1024 .f32 := log v9
  have v11 : FVec Ideal S4x1024 .f32 := divf v8 v10
  have v12 : FVec Ideal S4x1024 .f32 := floor v11
  have cst_5 : Ideal .f32 := Scalar.ofBits .f32 0x3F800000#32
  have v13 : FVec Ideal S4x1024 .f32 := broadcast S4x1024 cst_5
  have v14 : FVec Ideal S4x1024 .f32 := addf v12 v13
  have cst_6 : Ideal .f32 := Scalar.ofBits .f32 0x00000000#32
  have v15 : FVec Ideal S4x1024 .f32 := broadcast S4x1024 cst_6
  have v16 : FVec Ideal S4x1024 .f32 := select v7 v15 v14
  v16

theorem pay3_eq (v0 : Vec Ideal S4x1024x18432 .bf16) : k0_pay3 (F := Ideal) v0 = expOf
    (multiReduction .maximumf [2] S4x1024 (absf (k0_pay2 (F := Ideal) v0)) 0xFF800000#32 reduces_S4x1024x18432_S4x1024 (.inl rfl) rfl) := by
  unfold k0_pay3 expOf
  rfl

theorem expOf_at (A : FVec Ideal S4x1024 .f32) (b : Fin 4) (s : Fin 1024) : expOf A (ix2 b s) = exponent (A (ix2 b s)) := by
  unfold exponent
  rfl

/-- A row's exponent. -/
theorem exp_at (v0 : Vec Ideal S4x1024x18432 .bf16) (b : Fin 4) (s : Fin 1024) :
    k0_pay3 (F := Ideal) v0 (ix2 b s) = exponent (top v0 b s) := by
  rw [pay3_eq, expOf_at, rowMax_at]

theorem exp2_at (A : FVec Ideal S4x1024 .f32) (j : S4x1024.Idx) : exp2 A j = Ideal.exp2 (A j) := rfl

/-- A row's scale. -/
theorem scale_at (v0 : Vec Ideal S4x1024x18432 .bf16) (b : Fin 4) (s : Fin 1024) :
    k0_pay4 (F := Ideal) v0 (ix2 b s) = Ideal.exp2 (exponent (top v0 b s)) := by
  unfold k0_pay4
  rw [exp2_at, exp_at]

theorem exp2_scalar (x : Ideal .f32) : FloatOps.exp2 x = Ideal.exp2 x := rfl

/-- The reference's codes, from the rows' exponents. -/
def codesOf (v0 : Vec Ideal S4x1024x18432 .bf16) (A : FVec Ideal S4x1024 .f32) : FVec Ideal S4x1024x18432 .fp8e4m3 :=
  have cst_7 : Ideal .f32 := Scalar.ofBits .f32 0x00000000#32
  have v18 : FVec Ideal S4x1024 .f32 := broadcast S4x1024 cst_7
  have v19 : FVec Ideal S4x1024 .f32 := subf v18 A
  have v20 : FVec Ideal S4x1024 .f32 := exp2 v19
  have v21 : FVec Ideal S4x1024x1 .f32 := shapeCast S4x1024x1 v20 shapeCasts_S4x1024_S4x1024x1
  have v22 : FVec Ideal S4x1024x18432 .f32 := broadcastTo S4x1024x18432 v21 broadcasts_S4x1024x1_S4x1024x18432
  have v23 : FVec Ideal S4x1024x18432 .f32 := mulf (k0_pay2 v0) v22
  have cst_8 : Ideal .f32 := Scalar.ofBits .f32 0xC3E00000#32
  have cst_9 : Ideal .f32 := Scalar.ofBits .f32 0x43E00000#32
  have v24 : FVec Ideal S4x1024x18432 .f32 := broadcast S4x1024x18432 cst_8
  have v25 : FVec Ideal S4x1024x18432 .f32 := maximumf v24 v23
  have v26 : FVec Ideal S4x1024x18432 .f32 := broadcast S4x1024x18432 cst_9
  have v27 : FVec Ideal S4x1024x18432 .f32 := minimumf v26 v25
  have v28 : FVec Ideal S4x1024x18432 .fp8e4m3 := truncf .fp8e4m3 v27 bitsLt_fp8e4m3_f32
  v28

theorem pay5_eq (v0 : Vec Ideal S4x1024x18432 .bf16) : k0_pay5 (F := Ideal) v0 = codesOf v0 (k0_pay3 v0) := by
  unfold k0_pay5 codesOf
  rfl

theorem codesOf_at (v0 : Vec Ideal S4x1024x18432 .bf16) (A : FVec Ideal S4x1024 .f32) (b : Fin 4) (s : Fin 1024) (k : Fin 18432) :
    codesOf v0 A (ix3 b s k)
      = min (Ideal.ofBits .f32 0x43E00000#32) (max (Ideal.ofBits .f32 0xC3E00000#32)
          (v0 (ix3 b s k) * Ideal.exp2 (Ideal.ofBits .f32 0x00000000#32 - A (ix2 b s)))) := by
  rw [bits_f32_zero]
  pointwise [codesOf, k0_pay2]
  rw [exp2_scalar]

/-- A row's codes. -/
theorem codes_at (v0 : Vec Ideal S4x1024x18432 .bf16) (b : Fin 4) (s : Fin 1024) (k : Fin 18432) :
    k0_pay5 (F := Ideal) v0 (ix3 b s k)
      = min (Ideal.ofBits .f32 0x43E00000#32) (max (Ideal.ofBits .f32 0xC3E00000#32)
          (v0 (ix3 b s k) * Ideal.exp2 (Ideal.ofBits .f32 0x00000000#32 - exponent (top v0 b s)))) := by
  rw [pay5_eq, codesOf_at, exp_at]

/-- The scaled product of the codes with the weight codes. -/
theorem base_at (v0 : Vec Ideal S4x1024x18432 .bf16) (w : Vec Ideal S18432x3072 .fp8e4m3) (b : Fin 4) (s : Fin 1024) (k : Fin 3072) :
    k0_pay6 (F := Ideal) v0 w (ix3 b s k)
      = (∑ x : Fin 18432, k0_pay5 (F := Ideal) v0 (ix3 b s x) * w (ix2 x k)) * k0_pay4 (F := Ideal) v0 (ix2 b s) := by
  unfold k0_pay6
  generalize k0_pay5 (F := Ideal) v0 = A
  generalize k0_pay4 (F := Ideal) v0 = B
  pointwise

/-- An entry of the result. -/
theorem y_at (v0 : Vec Ideal S4x1024x18432 .bf16) (v35 : FVec Ideal S4x1024x3072 .f32) (v36 : Vec Ideal S3072 .f32)
    (v40 : Vec Ideal S18432x64 .bf16) (v43 : Vec Ideal S64x3072 .bf16) (b : Fin 4) (s : Fin 1024) (k : Fin 3072) :
    k0_pay1 (F := Ideal) v0 v35 v36 v40 v43 (ix3 b s k)
      = v35 (ix3 b s k) * v36 (ix1 k)
        + (∑ x : Fin 64, (∑ z : Fin 18432, v0 (ix3 b s z) * v40 (ix2 z x)) * v43 (ix2 x k)) * Ideal.ofBits .f32 0x40000000#32 := by
  pointwise [k0_pay1]

end Cert.ReferenceIdeal.Rows

end
-- ==== Proof.Equation.lean ====
/- The two programs' results are one function of the arguments where every row is `Normal`: the codes (`codes_eq`), the
   scales (`scale_eq`) and the result (`y_eq`). The kernel's row `1024 b + s` is the reference's row `(b, s)`; at it the
   kernel's scale and inverse scale, read off the exponent field, are the reference's powers of two (`RowMax.scale_agree`), and
   the two sums then agree term by term. -/
module

public import proofs.«01_k».proof.Proof.Region0
public import proofs.«01_k».proof.Proof.Region1
public import proofs.«01_k».proof.Proof.RefRows

@[expose] public section

set_option maxRecDepth 16384

noncomputable section

namespace Cert.Equation

open Cert.KernelIdeal.Region0 Cert.KernelIdeal.Region1 Cert.Scale Cert.RowMax
open Idealize.ShloMosaic Idealize.ShloMosaic.TcCoe

/-- The kernel's row of a batch and a position. -/
def flat (b : Fin 4) (s : Fin 1024) : Fin 4096 := ⟨b.val * 1024 + s.val, by omega⟩

variable (x : Vec Ideal Cert.ReferenceIdeal.S4x1024x18432 .bf16) (X : Vec Ideal Cert.KernelIdeal.S4096x18432 .bf16)
variable (hX : ∀ b s k, X (ix2 (flat b s) k) = x (ix3 b s k))
variable (hN : ∀ b s, Normal (amax fun k : Fin 18432 => x (ix3 b s k)))

include hX

theorem rowQ_eq (b : Fin 4) (s : Fin 1024) :
    rowQ X (flat b s) = amax (fun k : Fin 18432 => x (ix3 b s k)) * Ideal.ofBits .f32 0x3B124925#32 := by
  unfold rowQ
  exact congrArg (fun f => amax f * Ideal.ofBits .f32 0x3B124925#32) (funext fun k => hX b s k)

include hN

/-- The two programs' scales agree. -/
theorem scale_eq (b : Fin 4) (s : Fin 1024) :
    scaleArr X (ix2 (flat b s) 0) = Cert.ReferenceIdeal.Gen.k0_pay4 (F := Ideal) x (ix2 b s) := by
  rw [Cert.ReferenceIdeal.Rows.scale_at]
  show kScale (rowQ X (flat b s)) = _
  rw [rowQ_eq x X hX]
  exact (scale_agree _ (hN b s)).1

/-- The two programs' codes agree. -/
theorem codes_eq (b : Fin 4) (s : Fin 1024) (k : Fin 18432) :
    codesArr X (ix2 (flat b s) k) = Cert.ReferenceIdeal.Gen.k0_pay5 (F := Ideal) x (ix3 b s k) := by
  rw [Cert.ReferenceIdeal.Rows.codes_at]
  show codeAt X (flat b s) k = _
  unfold codeAt
  rw [rowQ_eq x X hX, hX, (scale_agree _ (hN b s)).2]
  rfl

/-- The two programs' results agree. -/
theorem y_eq (w : Vec Ideal Cert.KernelIdeal.S18432x3072 .fp8e4m3) (ws : Vec Ideal Cert.ReferenceIdeal.S3072 .f32)
    (A : Vec Ideal Cert.KernelIdeal.S18432x64 .bf16) (B : Vec Ideal Cert.KernelIdeal.S64x3072 .bf16)
    (WS : Vec Ideal Cert.KernelIdeal.S1x3072 .f32) (hWS : ∀ k, WS (ix2 0 k) = ws (ix1 k))
    (b : Fin 4) (s : Fin 1024) (k : Fin 3072) :
    yArr (codesArr X) w (scaleArr X) WS (tArr X A) B (ix2 (flat b s) k)
      = Cert.ReferenceIdeal.Gen.k0_pay1 (F := Ideal) x (Cert.ReferenceIdeal.Gen.k0_pay6 x w) ws A B (ix3 b s k) := by
  rw [yArr_at, Cert.ReferenceIdeal.Rows.y_at, Cert.ReferenceIdeal.Rows.base_at, scale_eq x X hX hN, hWS]
  refine congrArg₂ (fun p q : EReal => p * Cert.ReferenceIdeal.Gen.k0_pay4 (F := Ideal) x (ix2 b s) * ws (ix1 k)
    + q * Ideal.ofBits .f32 0x40000000#32) ?_ ?_
  · exact Finset.sum_congr rfl fun z _ => by rw [codes_eq x X hX hN]
  · refine Finset.sum_congr rfl fun z _ => ?_
    rw [tArr_at]
    exact congrArg (· * B (ix2 z k)) (Finset.sum_congr rfl fun y _ => by rw [hX])

end Cert.Equation

end
-- ==== Proof.HostReads.lean ====
/- The kernel's host lines around its two launches: what the launches read (the rows laid out as one list, the weights' scale as
   one row, the first launch's arrays) and what the three results read back (`y_read`, `codes_read`, `scale_read`). -/
module

public import proofs.«01_k».proof.Proof.Equation

@[expose] public section

set_option maxRecDepth 16384

noncomputable section

namespace Cert.KernelIdeal.HostReads

open Cert.KernelIdeal Cert.KernelIdeal.Gen Cert.KernelIdeal.Region0 Cert.KernelIdeal.Region1 Cert.Equation
open Idealize.ShloMosaic Idealize.ShloMosaic.TcCoe

variable (m : (ℓ : Loc nD τ sig) → Buf (Elt Ideal) ℓ) (ρ : Dev nD → PrngReg)

/-! ## The reshapes at an index -/

theorem rows_at (v : Vec Ideal S4x1024x18432 .bf16) (h : S4x1024x18432.ShapeCasts S4096x18432) (b : Fin 4) (s : Fin 1024)
    (k : Fin 18432) : shapeCast S4096x18432 v h (ix2 (flat b s) k) = v (ix3 b s k) :=
  congrArg v (Shape.reshapeEquiv_eq_of_rowMajor _ (by
    rw [Shape.rowMajor_val_three, Shape.rowMajor_val_two]; rfl))

theorem wscale_at (v : Vec Ideal S3072 .f32) (h : S3072.ShapeCasts S1x3072) (k : Fin 3072) :
    shapeCast S1x3072 v h (ix2 0 k) = v (ix1 k) :=
  congrArg v (Shape.reshapeEquiv_eq_of_rowMajor _ (by
    rw [Shape.rowMajor_val_one, Shape.rowMajor_val_two]
    show k.val = 0 * 3072 + k.val
    omega))

theorem y_at' (v : Vec Ideal S4096x3072 .bf16) (h : S4096x3072.ShapeCasts S4x1024x3072) (b : Fin 4) (s : Fin 1024)
    (k : Fin 3072) : shapeCast S4x1024x3072 v h (ix3 b s k) = v (ix2 (flat b s) k) :=
  congrArg v (Shape.reshapeEquiv_eq_of_rowMajor _ (by
    rw [Shape.rowMajor_val_three, Shape.rowMajor_val_two]; rfl))

theorem codes_at' (v : Vec Ideal S4096x18432 .fp8e4m3) (h : S4096x18432.ShapeCasts S4x1024x18432) (b : Fin 4) (s : Fin 1024)
    (k : Fin 18432) : shapeCast S4x1024x18432 v h (ix3 b s k) = v (ix2 (flat b s) k) :=
  congrArg v (Shape.reshapeEquiv_eq_of_rowMajor _ (by
    rw [Shape.rowMajor_val_three, Shape.rowMajor_val_two]; rfl))

theorem scale_at' (v : Vec Ideal S4096x1 .f32) (h : S4096x1.ShapeCasts S4x1024) (b : Fin 4) (s : Fin 1024) :
    shapeCast S4x1024 v h (ix2 b s) = v (ix2 (flat b s) 0) :=
  congrArg v (Shape.reshapeEquiv_eq_of_rowMajor _ (by
    rw [Shape.rowMajor_val_two, Shape.rowMajor_val_two]
    show (b.val * 1024 + s.val) * 1 + 0 = b.val * 1024 + s.val
    omega))

/-! ## What the launches read -/

/-- The rows the first launch reads. -/
theorem V1_rows (c : Dev nD) (b : Fin 4) (s : Fin 1024) (k : Fin 18432) :
    (V1 m ρ c main_v0 : Vec Ideal S4096x18432 .bf16) (ix2 (flat b s) k) = m ((c : Thread nD τ).loc main_arg0) (ix3 b s k) := by
  show StableHlo.after hostOps0 (W0 m ρ c) (Proc.devRef .tc main_v0) (ix2 (flat b s) k) = _
  rw [StableHlo.after_cons, StableHlo.after_nil, StableHlo.reshape_result]
  exact rows_at _ _ b s k

theorem V1_arg3 (c : Dev nD) : V1 m ρ c main_arg3 = m ((c : Thread nD τ).loc main_arg3) :=
  W1_args m ρ c main_arg3 (by decide +kernel)

theorem V3_arg1 (c : Dev nD) : V3 m ρ c main_arg1 = m ((c : Thread nD τ).loc main_arg1) :=
  W3_args m ρ c main_arg1 (by decide +kernel)

theorem V3_arg4 (c : Dev nD) : V3 m ρ c main_arg4 = m ((c : Thread nD τ).loc main_arg4) :=
  W3_args m ρ c main_arg4 (by decide +kernel)

/-- The weights' scale as the second launch reads it. -/
theorem V3_wscale (c : Dev nD) (k : Fin 3072) :
    (V3 m ρ c main_v2 : Vec Ideal S1x3072 .f32) (ix2 0 k) = m ((c : Thread nD τ).loc main_arg2) (ix1 k) := by
  show StableHlo.after hostOps1 (W2 m ρ c) (Proc.devRef .tc main_v2) (ix2 0 k) = _
  rw [StableHlo.after_cons, StableHlo.after_nil, StableHlo.reshape_result]
  refine (wscale_at _ _ k).trans ?_
  exact congrFun (W2_args m ρ c main_arg2 (by decide +kernel)) (ix1 k)

theorem V3_codes (c : Dev nD) : V3 m ρ c main_v1_0 = codesArr (V1 m ρ c main_v0) :=
  (W3_of m ρ c main_v1_0 (by decide +kernel)).trans ((W2_arr m ρ c 2).trans (codes_final (V1 m ρ) c))

theorem V3_scale (c : Dev nD) : V3 m ρ c main_v1_1 = scaleArr (V1 m ρ c main_v0) :=
  (W3_of m ρ c main_v1_1 (by decide +kernel)).trans ((W2_arr m ρ c 3).trans (scale_final (V1 m ρ) c))

theorem V3_t (c : Dev nD) : V3 m ρ c main_v1_2 = tArr (V1 m ρ c main_v0) (m ((c : Thread nD τ).loc main_arg3)) :=
  (W3_of m ρ c main_v1_2 (by decide +kernel)).trans ((W2_arr m ρ c 4).trans
    ((t_final (V1 m ρ) c).trans (congrArg (tArr (V1 m ρ c main_v0)) (V1_arg3 m ρ c))))

/-! ## What the results read -/

theorem W4_y (c : Dev nD) : W4 m ρ c (Proc.devRef .tc main_v3)
    = yArr (codesArr (V1 m ρ c main_v0)) (m ((c : Thread nD τ).loc main_arg1)) (scaleArr (V1 m ρ c main_v0)) (V3 m ρ c main_v2)
        (tArr (V1 m ρ c main_v0) (m ((c : Thread nD τ).loc main_arg3))) (m ((c : Thread nD τ).loc main_arg4)) := by
  refine (W4_arr m ρ c 6).trans ((y_final (V3 m ρ) c).trans ?_)
  rw [V3_codes, V3_scale, V3_t, V3_arg1, V3_arg4]

theorem W4_codes (c : Dev nD) : W4 m ρ c (Proc.devRef .tc main_v1_0) = codesArr (V1 m ρ c main_v0) :=
  (W4_of m ρ c main_v1_0 (by decide +kernel)).trans (V3_codes m ρ c)

theorem W4_scale (c : Dev nD) : W4 m ρ c (Proc.devRef .tc main_v1_1) = scaleArr (V1 m ρ c main_v0) :=
  (W4_of m ρ c main_v1_1 (by decide +kernel)).trans (V3_scale m ρ c)

/-- The result at an index. -/
theorem y_read (c : Dev nD) (b : Fin 4) (s : Fin 1024) (k : Fin 3072) :
    (W5 m ρ c (Proc.devRef .tc main_v4) : Vec Ideal S4x1024x3072 .bf16) (ix3 b s k)
      = yArr (codesArr (V1 m ρ c main_v0)) (m ((c : Thread nD τ).loc main_arg1)) (scaleArr (V1 m ρ c main_v0)) (V3 m ρ c main_v2)
        (tArr (V1 m ρ c main_v0) (m ((c : Thread nD τ).loc main_arg3))) (m ((c : Thread nD τ).loc main_arg4))
        (ix2 (flat b s) k) := by
  show StableHlo.after hostOps2 (W4 m ρ c) (Proc.devRef .tc main_v4) (ix3 b s k) = _
  rw [StableHlo.after_cons, StableHlo.after_cons, StableHlo.after_cons, StableHlo.after_nil,
    StableHlo.reshape_result_ne _ _ _ _ _ (by decide), StableHlo.reshape_result_ne _ _ _ _ _ (by decide),
    StableHlo.reshape_result]
  · exact (y_at' _ _ b s k).trans (congrFun (W4_y m ρ c) _)
  all_goals decide

/-- The codes at an index. -/
theorem codes_read (c : Dev nD) (b : Fin 4) (s : Fin 1024) (k : Fin 18432) :
    (W5 m ρ c (Proc.devRef .tc main_v5) : Vec Ideal S4x1024x18432 .fp8e4m3) (ix3 b s k)
      = codesArr (V1 m ρ c main_v0) (ix2 (flat b s) k) := by
  show StableHlo.after hostOps2 (W4 m ρ c) (Proc.devRef .tc main_v5) (ix3 b s k) = _
  rw [StableHlo.after_cons, StableHlo.after_cons, StableHlo.after_cons, StableHlo.after_nil,
    StableHlo.reshape_result_ne _ _ _ _ _ (by decide), StableHlo.reshape_result]
  refine (codes_at' _ _ b s k).trans ?_
  rw [StableHlo.reshape_result_ne _ _ _ _ _ (by decide)]
  · exact congrFun (W4_codes m ρ c) _
  all_goals decide

/-- The scales at an index. -/
theorem scale_read (c : Dev nD) (b : Fin 4) (s : Fin 1024) :
    (W5 m ρ c (Proc.devRef .tc main_v6) : Vec Ideal S4x1024 .f32) (ix2 b s) = scaleArr (V1 m ρ c main_v0) (ix2 (flat b s) 0) := by
  show StableHlo.after hostOps2 (W4 m ρ c) (Proc.devRef .tc main_v6) (ix2 b s) = _
  rw [StableHlo.after_cons, StableHlo.after_cons, StableHlo.after_cons, StableHlo.after_nil, StableHlo.reshape_result]
  refine (scale_at' _ _ b s).trans ?_
  rw [StableHlo.reshape_result_ne _ _ _ _ _ (by decide), StableHlo.reshape_result_ne _ _ _ _ _ (by decide)]
  · exact congrFun (W4_scale m ρ c) _
  all_goals decide

end Cert.KernelIdeal.HostReads

end
-- ==== Proof.RefRun.lean ====
/- What the reference's run leaves in its three result arrays: one grid point whose blocks are the whole arrays, so each
   result array ends holding the body's payload of the argument arrays (`G5`, `G6`, `G7`), and the arguments are unchanged
   (`run`). -/
module

public import proofs.«01_k».proof.Proof.Gen.ReferenceIdeal.Frame
public import Idealize.ShloMosaic.Lib.Pipeline.Value

@[expose] public section

noncomputable section

namespace Cert.ReferenceIdeal.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x1024x18432.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 1024 + 1 * (j 1).val = (j 1).val; omega
  | ⟨2, _⟩ => show win0_0.index t (2 : Fin 3) * 18432 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S18432x3072.Idx) : ((cfg0.win 1).blk t).view.emb j = j := by
  obtain ⟨e0, e1⟩ := idx_zero1 t
  funext a; apply Fin.ext
  match a with
  | ⟨0, _⟩ => show win0_1.index t (0 : Fin 2) * 18432 + 1 * (j 0).val = (j 0).val; omega
  | ⟨1, _⟩ => show win0_1.index t (1 : Fin 2) * 3072 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S3072.Idx) : ((cfg0.win 2).blk t).view.emb j = j := by
  have e0 := idx_zero2 t
  funext a; apply Fin.ext
  match a with
  | ⟨0, _⟩ => show win0_2.index t (0 : Fin 1) * 3072 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S18432x64.Idx) : ((cfg0.win 3).blk t).view.emb j = j := by
  obtain ⟨e0, e1⟩ := idx_zero3 t
  funext a; apply Fin.ext
  match a with
  | ⟨0, _⟩ => show win0_3.index t (0 : Fin 2) * 18432 + 1 * (j 0).val = (j 0).val; omega
  | ⟨1, _⟩ => show win0_3.index t (1 : Fin 2) * 64 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S64x3072.Idx) : ((cfg0.win 4).blk t).view.emb j = j := by
  obtain ⟨e0, e1⟩ := idx_zero4 t
  funext a; apply Fin.ext
  match a with
  | ⟨0, _⟩ => show win0_4.index t (0 : Fin 2) * 64 + 1 * (j 0).val = (j 0).val; omega
  | ⟨1, _⟩ => show win0_4.index t (1 : Fin 2) * 3072 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S4x1024x3072.Idx) : ((cfg0.win 5).blk t).view.emb j = j := by
  obtain ⟨e0, e1, e2⟩ := idx_zero5 t
  funext a; apply Fin.ext
  match a with
  | ⟨0, _⟩ => show win0_5.index t (0 : Fin 3) * 4 + 1 * (j 0).val = (j 0).val; omega
  | ⟨1, _⟩ => show win0_5.index t (1 : Fin 3) * 1024 + 1 * (j 1).val = (j 1).val; omega
  | ⟨2, _⟩ => show win0_5.index t (2 : Fin 3) * 3072 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x1024x18432.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 1024 + 1 * (j 1).val = (j 1).val; omega
  | ⟨2, _⟩ => show win0_6.index t (2 : Fin 3) * 18432 + 1 * (j 2).val = (j 2).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S4x1024.Idx) : ((cfg0.win 7).blk t).view.emb j = j := by
  obtain ⟨e0, e1⟩ := idx_zero7 t
  funext a; apply Fin.ext
  match a with
  | ⟨0, _⟩ => show win0_7.index t (0 : Fin 2) * 4 + 1 * (j 0).val = (j 0).val; omega
  | ⟨1, _⟩ => show win0_7.index t (1 : Fin 2) * 1024 + 1 * (j 1).val = (j 1).val; omega

/-! ### Output window 5: the array after the run -/

/-- What the window's array ends holding: `out0_5` applied to the argument arrays in place of the input blocks (a value that the
    frame states apart, `kK_payN a…`, keeps its loads inside its own definition). -/
abbrev G5 (a0 : Vec F S4x1024x18432 .bf16) (a1 : Vec F S18432x3072 .fp8e4m3) (a2 : Vec F S3072 .f32) (a3 : Vec F S18432x64 .bf16) (a4 : Vec F S64x3072 .bf16) : Vec F S4x1024x3072 .bf16 :=
  k0_pay1 a0 (k0_pay6 a0 a1) a2 a3 a4

/-- A load of the whole of a block reads the block, and the one store through the whole rectangle leaves its payload. -/
theorem out5_eq (a0 : Vec F S4x1024x18432 .bf16) (a1 : Vec F S18432x3072 .fp8e4m3) (a2 : Vec F S3072 .f32) (a3 : Vec F S18432x64 .bf16) (a4 : Vec F S64x3072 .bf16) : out0_5 (F := F) a0 a1 a2 a3 a4 = G5 a0 a1 a2 a3 a4 := by
  unfold out0_5
  rw [View.canon_unit_zero hz5, View.ld_unit_zero (S := S4x1024x18432) hz0 _ a0, View.ld_unit_zero (S := S18432x3072) hz1 _ a1, View.ld_unit_zero (S := S3072) hz2 _ a2, View.ld_unit_zero (S := S18432x64) hz3 _ a3, View.ld_unit_zero (S := S64x3072) hz4 _ a4]

/-- Cutting the point's block out of `X` and reading `X` through the block's view give the same. -/
theorem cut5_eq (t : Fin cfg0.N) (X : Vec F S4x1024x3072 .bf16) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S4x1024x3072.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S4x1024x18432 .bf16) (a1 : Vec F S18432x3072 .fp8e4m3) (a2 : Vec F S3072 .f32) (a3 : Vec F S18432x64 .bf16) (a4 : Vec F S64x3072 .bf16) : Vec F S4x1024x18432 .fp8e4m3 :=
  k0_pay5 a0

/-- A load of the whole of a block reads the block, and the one store through the whole rectangle leaves its payload. -/
theorem out6_eq (a0 : Vec F S4x1024x18432 .bf16) (a1 : Vec F S18432x3072 .fp8e4m3) (a2 : Vec F S3072 .f32) (a3 : Vec F S18432x64 .bf16) (a4 : Vec F S64x3072 .bf16) : out0_6 (F := F) a0 a1 a2 a3 a4 = G6 a0 a1 a2 a3 a4 := by
  unfold out0_6
  rw [View.canon_unit_zero hz6, View.ld_unit_zero (S := S4x1024x18432) hz0 _ a0]

/-- Cutting the point's block out of `X` and reading `X` through the block's view give the same. -/
theorem cut6_eq (t : Fin cfg0.N) (X : Vec F S4x1024x18432 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S4x1024x18432.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ### Output window 7: the array after the run -/

/-- What the window's array ends holding: `out0_7` applied to the argument arrays in place of the input blocks (a value that the
    frame states apart, `kK_payN a…`, keeps its loads inside its own definition). -/
abbrev G7 (a0 : Vec F S4x1024x18432 .bf16) (a1 : Vec F S18432x3072 .fp8e4m3) (a2 : Vec F S3072 .f32) (a3 : Vec F S18432x64 .bf16) (a4 : Vec F S64x3072 .bf16) : Vec F S4x1024 .f32 :=
  k0_pay4 a0

/-- A load of the whole of a block reads the block, and the one store through the whole rectangle leaves its payload. -/
theorem out7_eq (a0 : Vec F S4x1024x18432 .bf16) (a1 : Vec F S18432x3072 .fp8e4m3) (a2 : Vec F S3072 .f32) (a3 : Vec F S18432x64 .bf16) (a4 : Vec F S64x3072 .bf16) : out0_7 (F := F) a0 a1 a2 a3 a4 = G7 a0 a1 a2 a3 a4 := by
  unfold out0_7
  rw [View.canon_unit_zero hz7, View.ld_unit_zero (S := S4x1024x18432) hz0 _ a0]

/-- Cutting the point's block out of `X` and reading `X` through the block's view give the same. -/
theorem cut7_eq (t : Fin cfg0.N) (X : Vec F S4x1024 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4)) := by
  show (cfg0.win 7).cut (grid0.coords t) ((dats m 0 c).after 7 t) = _
  rw [after0_7, out7_eq, iblk0_eq, iblk1_eq, iblk2_eq, iblk3_eq, iblk4_eq]
  exact cut7_eq t _

/-- Every index of the array is in the point's block. -/
theorem covered7 (i : S4x1024.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4)) (fun t _ => flushed7_eq m c t) covered7).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      kept_main_arg0 m r h c,
      kept_main_arg1 m r h c,
      kept_main_arg2 m r h c,
      kept_main_arg3 m r h c,
      kept_main_arg4 m r h c⟩)
    (run_main m ρ)

end Cert.ReferenceIdeal.RefRun

end
-- ==== Proof.Results.lean ====
/- The two programs' three results are equal where every row of `x` is normal: each result array of the kernel's run is the one of
   the reference's run, element by element (`algebraic`). -/
module

public import proofs.«01_k».proof.Defs
public import proofs.«01_k».proof.Proof.Gen.Pre_normal_rows
public import proofs.«01_k».proof.Proof.KernelRun
public import proofs.«01_k».proof.Proof.HostReads
public import proofs.«01_k».proof.Proof.RefRun

@[expose] public section

set_option maxRecDepth 16384

noncomputable section

namespace Cert.Results

open Cert.KernelIdeal Cert.KernelIdeal.Gen Cert.Equation Cert.RowMax Cert.KernelIdeal.HostReads
open Idealize.ShloMosaic Idealize.ShloMosaic.TcCoe Idealize.SL.Sem

variable (m : (ℓ : Loc nD τ sig) → Buf (Elt Ideal) ℓ) (ρ : Dev nD → PrngReg)

/-- The kernel's result, as the reference computes it from the kernel's arguments. -/
theorem y_result (c : Dev nD) (hN : ∀ b s, Normal (amax fun k : Fin 18432 => m ((c : Thread nD τ).loc main_arg0) (ix3 b s k))) :
    W5 m ρ c (Proc.devRef .tc main_v4)
      = Cert.ReferenceIdeal.RefRun.G5 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine funext fun (j : S4x1024x3072.Idx) => ?_
  obtain ⟨b, s, k, rfl⟩ : ∃ (b : Fin 4) (s : Fin 1024) (k : Fin 3072), j = ix3 b s k := ⟨j 0, j 1, j 2, eq_ix3 j⟩
  exact (y_read m ρ c b s k).trans
    (y_eq _ _ (V1_rows m ρ c) hN _ _ _ _ _ (V3_wscale m ρ c) b s k)

/-- The kernel's codes, as the reference computes them. -/
theorem codes_result (c : Dev nD) (hN : ∀ b s, Normal (amax fun k : Fin 18432 => m ((c : Thread nD τ).loc main_arg0) (ix3 b s k))) :
    W5 m ρ c (Proc.devRef .tc main_v5)
      = Cert.ReferenceIdeal.RefRun.G6 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine funext fun (j : S4x1024x18432.Idx) => ?_
  obtain ⟨b, s, k, rfl⟩ : ∃ (b : Fin 4) (s : Fin 1024) (k : Fin 18432), j = ix3 b s k := ⟨j 0, j 1, j 2, eq_ix3 j⟩
  exact (codes_read m ρ c b s k).trans (codes_eq _ _ (V1_rows m ρ c) hN b s k)

/-- The kernel's scales, as the reference computes them. -/
theorem scale_result (c : Dev nD) (hN : ∀ b s, Normal (amax fun k : Fin 18432 => m ((c : Thread nD τ).loc main_arg0) (ix3 b s k))) :
    W5 m ρ c (Proc.devRef .tc main_v6)
      = Cert.ReferenceIdeal.RefRun.G7 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine funext fun (j : S4x1024.Idx) => ?_
  obtain ⟨b, s, rfl⟩ : ∃ (b : Fin 4) (s : Fin 1024), j = ix2 b s := ⟨j 0, j 1, eq_ix2 j⟩
  exact (scale_read m ρ c b s).trans (scale_eq _ _ (V1_rows m ρ c) hN b s)

/-- A function of five arguments takes equal arguments to equal values. -/
theorem congr5 {α₀ α₁ α₂ α₃ α₄ β : Type} (f : α₀ → α₁ → α₂ → α₃ → α₄ → β) {a₀ b₀ : α₀} {a₁ b₁ : α₁} {a₂ b₂ : α₂} {a₃ b₃ : α₃}
    {a₄ b₄ : α₄} (h₀ : a₀ = b₀) (h₁ : a₁ = b₁) (h₂ : a₂ = b₂) (h₃ : a₃ = b₃) (h₄ : a₄ = b₄) :
    f a₀ a₁ a₂ a₃ a₄ = f b₀ b₁ b₂ b₃ b₄ := by
  rw [h₀, h₁, h₂, h₃, h₄]

/-- Kernel and reference leave the same three results, from arguments that agree and whose rows are normal. -/
theorem algebraic : Cert.algebraic_KernelIdeal_ReferenceIdeal_pre_normal_rows := by
  intro m ρ m' ρ' hpre hagree
  have hN : ∀ c : Dev nD, ∀ b s, Normal (amax fun k : Fin 18432 => m ((c : Thread nD τ).loc main_arg0) (ix3 b s k)) :=
    fun c b s => normal_of_pre _ _ _ _ _ (hpre c) b s
  refine ⟨fun c => W5 m ρ c (Proc.devRef .tc main_v4), fun c => W5 m ρ c (Proc.devRef .tc main_v5),
    fun c => W5 m ρ c (Proc.devRef .tc main_v6),
    (θ_run Cert.KernelIdeal.defs _ _).mono (fun _ h => h.1) (Cert.KernelIdeal.KernelRun.run m ρ),
    (θ_run Cert.ReferenceIdeal.defs _ _).mono (fun _ h c => ?_) (Cert.ReferenceIdeal.RefRun.run m' ρ')⟩
  obtain ⟨a0, a1, a2, a3, a4⟩ := hagree c
  obtain ⟨h0, h1, h2, h3⟩ := h c
  refine ⟨h0.trans ?_, h1.trans ?_, h2.trans ?_, h3⟩
  · exact (congr5 (Cert.ReferenceIdeal.RefRun.G5 (F := Ideal)) a0 a1 a2 a3 a4).trans (y_result m ρ c (hN c)).symm
  · exact (congr5 (Cert.ReferenceIdeal.RefRun.G6 (F := Ideal)) a0 a1 a2 a3 a4).trans (codes_result m ρ c (hN c)).symm
  · exact (congr5 (Cert.ReferenceIdeal.RefRun.G7 (F := Ideal)) a0 a1 a2 a3 a4).trans (scale_result m ρ c (hN c)).symm

end Cert.Results

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Results

@[expose] public section

noncomputable section

namespace Cert.Proof

open Idealize.ShloMosaic Idealize.SL.Sem

/-- The whole claim. -/
theorem claim : Cert.Claim := ⟨Cert.Kernel.Gen.facts, Cert.KernelIdeal.Gen.facts, Cert.ReferenceIdeal.Gen.facts,
  Cert.Pre_normal_rows.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  Cert.Results.algebraic⟩

end Cert.Proof

end
